-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x48000x1 : Shape := ⟨3, ![16, 48000, 1]⟩
abbrev S16x48000x64 : Shape := ⟨3, ![16, 48000, 64]⟩
abbrev S64x512 : Shape := ⟨2, ![64, 512]⟩
abbrev S_ : Shape := ⟨0, ![]⟩

class Facts : Prop where
  bcast_S_S16x48000x1 : S_.BroadcastsInDim S16x48000x1 (![] : Fin 0 → Fin S16x48000x1.rank)
  bcast_S_S64x512 : S_.BroadcastsInDim S64x512 (![] : Fin 0 → Fin S64x512.rank)

variable [Facts]

def fn {F : FTy → Type} [FloatOps F] (main_arg0 : FVec F S16x48000x1 .f32) (main_arg1 : FVec F S16x48000x1 .f32) (main_arg2 : FVec F S16x48000x64 .f32) (main_arg3 : FVec F S64x512 .f32) : IVec S16x48000x1 1 × IVec S64x512 1 :=
  let main_v0 : FVec F S16x48000x1 .f32 := Host.absf main_arg0
  let main_cst : FVec F S_ .f32 := constant S_ .f32 0x7F800000#32
  let main_v1 : FVec F S16x48000x1 .f32 := broadcastInDim S16x48000x1 ![] bcast_S_S16x48000x1 main_cst
  let main_v2 : IVec S16x48000x1 1 := cmpf .olt main_v0 main_v1
  let main_v3 : FVec F S64x512 .f32 := Host.absf main_arg3
  let main_cst_0 : FVec F S_ .f32 := constant S_ .f32 0x7F800000#32
  let main_v4 : FVec F S64x512 .f32 := broadcastInDim S64x512 ![] bcast_S_S64x512 main_cst_0
  let main_v5 : IVec S64x512 1 := cmpf .olt main_v3 main_v4
  (main_v2, main_v5)
-- ==== Kernel.lean ====
abbrev S16x48000x1 : Shape := ⟨3, ![16, 48000, 1]⟩
abbrev S16x48000x64 : Shape := ⟨3, ![16, 48000, 64]⟩
abbrev S64x512 : Shape := ⟨2, ![64, 512]⟩
abbrev S16x5x1x9600 : Shape := ⟨4, ![16, 5, 1, 9600]⟩
abbrev S_ : Shape := ⟨0, ![]⟩
abbrev S64x1 : Shape := ⟨2, ![64, 1]⟩
abbrev S1x1x1x9600 : Shape := ⟨4, ![1, 1, 1, 9600]⟩
abbrev S1x9600x1 : Shape := ⟨3, ![1, 9600, 1]⟩
abbrev S1x9600x64 : Shape := ⟨3, ![1, 9600, 64]⟩
abbrev S8x128 : Shape := ⟨2, ![8, 128]⟩
abbrev S1x9600 : Shape := ⟨2, ![1, 9600]⟩
abbrev S1x1 : Shape := ⟨2, ![1, 1]⟩
abbrev S1x9599 : Shape := ⟨2, ![1, 9599]⟩
abbrev S1x2 : Shape := ⟨2, ![1, 2]⟩
abbrev S1x9598 : Shape := ⟨2, ![1, 9598]⟩
abbrev S1x4 : Shape := ⟨2, ![1, 4]⟩
abbrev S1x9596 : Shape := ⟨2, ![1, 9596]⟩
abbrev S1x8 : Shape := ⟨2, ![1, 8]⟩
abbrev S1x9592 : Shape := ⟨2, ![1, 9592]⟩
abbrev S1x16 : Shape := ⟨2, ![1, 16]⟩
abbrev S1x9584 : Shape := ⟨2, ![1, 9584]⟩
abbrev S1x32 : Shape := ⟨2, ![1, 32]⟩
abbrev S1x9568 : Shape := ⟨2, ![1, 9568]⟩
abbrev S1x64 : Shape := ⟨2, ![1, 64]⟩
abbrev S1x9536 : Shape := ⟨2, ![1, 9536]⟩
abbrev S1x128 : Shape := ⟨2, ![1, 128]⟩
abbrev S1x9472 : Shape := ⟨2, ![1, 9472]⟩
abbrev S1x256 : Shape := ⟨2, ![1, 256]⟩
abbrev S1x9344 : Shape := ⟨2, ![1, 9344]⟩
abbrev S1x512 : Shape := ⟨2, ![1, 512]⟩
abbrev S1x9088 : Shape := ⟨2, ![1, 9088]⟩
abbrev S1x1024 : Shape := ⟨2, ![1, 1024]⟩
abbrev S1x8576 : Shape := ⟨2, ![1, 8576]⟩
abbrev S1x2048 : Shape := ⟨2, ![1, 2048]⟩
abbrev S1x7552 : Shape := ⟨2, ![1, 7552]⟩
abbrev S1x4096 : Shape := ⟨2, ![1, 4096]⟩
abbrev S1x5504 : Shape := ⟨2, ![1, 5504]⟩
abbrev S1x8192 : Shape := ⟨2, ![1, 8192]⟩
abbrev S1x1408 : Shape := ⟨2, ![1, 1408]⟩
abbrev S512x9600 : Shape := ⟨2, ![512, 9600]⟩
abbrev S64x9600 : Shape := ⟨2, ![64, 9600]⟩
abbrev S9600x64 : Shape := ⟨2, ![9600, 64]⟩
abbrev S9600x1 : Shape := ⟨2, ![9600, 1]⟩

abbrev nBuf : Space → Nat
  | .hbm => 8
  | .vmem => 13
  | .smem => 0
  | _ => 0

abbrev bufTy : (tb : Table) → Fin (tcTables nBuf tb) → BufTy
  | .hbm, ⟨0, _⟩ => ⟨S16x48000x1, .f32⟩
  | .hbm, ⟨1, _⟩ => ⟨S16x48000x1, .f32⟩
  | .hbm, ⟨2, _⟩ => ⟨S16x48000x64, .f32⟩
  | .hbm, ⟨3, _⟩ => ⟨S64x512, .f32⟩
  | .hbm, ⟨4, _⟩ => ⟨S16x5x1x9600, .f32⟩
  | .hbm, ⟨5, _⟩ => ⟨S_, .f32⟩
  | .hbm, ⟨6, _⟩ => ⟨S64x1, .f32⟩
  | .hbm, ⟨7, _⟩ => ⟨S16x48000x1, .f32⟩
  | .local _ .vmem, ⟨0, _⟩ => ⟨S1x1x1x9600, .f32⟩
  | .local _ .vmem, ⟨1, _⟩ => ⟨S1x1x1x9600, .f32⟩
  | .local _ .vmem, ⟨2, _⟩ => ⟨S1x1x1x9600, .f32⟩
  | .local _ .vmem, ⟨3, _⟩ => ⟨S1x1x1x9600, .f32⟩
  | .local _ .vmem, ⟨4, _⟩ => ⟨S1x9600x1, .f32⟩
  | .local _ .vmem, ⟨5, _⟩ => ⟨S1x9600x1, .f32⟩
  | .local _ .vmem, ⟨6, _⟩ => ⟨S1x9600x64, .f32⟩
  | .local _ .vmem, ⟨7, _⟩ => ⟨S1x9600x64, .f32⟩
  | .local _ .vmem, ⟨8, _⟩ => ⟨S64x512, .f32⟩
  | .local _ .vmem, ⟨9, _⟩ => ⟨S64x1, .f32⟩
  | .local _ .vmem, ⟨10, _⟩ => ⟨S1x9600x1, .f32⟩
  | .local _ .vmem, ⟨11, _⟩ => ⟨S1x9600x1, .f32⟩
  | .local _ .vmem, ⟨12, _⟩ => ⟨S8x128, .f32⟩
  | _, _ => ⟨S16x48000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 5], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x1x9600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x9600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x9600x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x9600x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x9600x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S16x48000x1 : Shape := ⟨3, ![16, 48000, 1]⟩
abbrev S16x48000x64 : Shape := ⟨3, ![16, 48000, 64]⟩
abbrev S64x512 : Shape := ⟨2, ![64, 512]⟩
abbrev S16x48000 : Shape := ⟨2, ![16, 48000]⟩
abbrev S_ : Shape := ⟨0, ![]⟩
abbrev S1x48000 : Shape := ⟨2, ![1, 48000]⟩
abbrev S48000 : Shape := ⟨1, ![48000]⟩
abbrev S64x16x48000 : Shape := ⟨3, ![64, 16, 48000]⟩
abbrev S1x16x48000 : Shape := ⟨3, ![1, 16, 48000]⟩

abbrev nBuf : Space → Nat
  | .hbm => 109
  | .vmem => 0
  | .smem => 0
  | _ => 0

abbrev bufTy : (tb : Table) → Fin (tcTables nBuf tb) → BufTy
  | .hbm, ⟨0, _⟩ => ⟨S16x48000x1, .f32⟩
  | .hbm, ⟨1, _⟩ => ⟨S16x48000x1, .f32⟩
  | .hbm, ⟨2, _⟩ => ⟨S16x48000x64, .f32⟩
  | .hbm, ⟨3, _⟩ => ⟨S64x512, .f32⟩
  | .hbm, ⟨4, _⟩ => ⟨S16x48000, .f32⟩
  | .hbm, ⟨5, _⟩ => ⟨S_, .f32⟩
  | .hbm, ⟨6, _⟩ => ⟨S16x48000, .f32⟩
  | .hbm, ⟨7, _⟩ => ⟨S16x48000, .f32⟩
  | .hbm, ⟨8, _⟩ => ⟨S_, .f32⟩
  | .hbm, ⟨9, _⟩ => ⟨S_, .f32⟩
  | .hbm, ⟨10, _⟩ => ⟨S16x48000, .f32⟩
  | .hbm, ⟨11, _⟩ => ⟨S1x48000, .f32⟩
  | .hbm, ⟨12, _⟩ => ⟨S48000, .f32⟩
  | .hbm, ⟨13, _⟩ => ⟨S1x48000, .f32⟩
  | .hbm, ⟨14, _⟩ => ⟨S16x48000, .f32⟩
  | .hbm, ⟨15, _⟩ => ⟨S16x48000, .f32⟩
  | .hbm, ⟨16, _⟩ => ⟨S_, .i32⟩
  | .hbm, ⟨17, _⟩ => ⟨S_, .f32⟩
  | .hbm, ⟨18, _⟩ => ⟨S16x48000, .f32⟩
  | .hbm, ⟨19, _⟩ => ⟨S16x48000, .f32⟩
  | .hbm, ⟨20, _⟩ => ⟨S_, .f32⟩
  | .hbm, ⟨21, _⟩ => ⟨S16x48000, .f32⟩
  | .hbm, ⟨22, _⟩ => ⟨S16x48000, .i1⟩
  | .hbm, ⟨23, _⟩ => ⟨S_, .f32⟩
  | .hbm, ⟨24, _⟩ => ⟨S16x48000, .f32⟩
  | .hbm, ⟨25, _⟩ => ⟨S16x48000, .i1⟩
  | .hbm, ⟨26, _⟩ => ⟨S_, .f32⟩
  | .hbm, ⟨27, _⟩ => ⟨S_, .i1⟩
  | .hbm, ⟨28, _⟩ => ⟨S16x48000, .i1⟩
  | .hbm, ⟨29, _⟩ => ⟨S16x48000, .i1⟩
  | .hbm, ⟨30, _⟩ => ⟨S16x48000, .i1⟩
  | .hbm, ⟨31, _⟩ => ⟨S16x48000, .f32⟩
  | .hbm, ⟨32, _⟩ => ⟨S16x48000, .f32⟩
  | .hbm, ⟨33, _⟩ => ⟨S16x48000, .f32⟩
  | .hbm, ⟨34, _⟩ => ⟨S_, .f32⟩
  | .hbm, ⟨35, _⟩ => ⟨S16x48000, .f32⟩
  | .hbm, ⟨36, _⟩ => ⟨S16x48000, .f32⟩
  | .hbm, ⟨37, _⟩ => ⟨S_, .f32⟩
  | .hbm, ⟨38, _⟩ => ⟨S16x48000, .f32⟩
  | .hbm, ⟨39, _⟩ => ⟨S16x48000, .i1⟩
  | .hbm, ⟨40, _⟩ => ⟨S_, .f32⟩
  | .hbm, ⟨41, _⟩ => ⟨S_, .f32⟩
  | .hbm, ⟨42, _⟩ => ⟨S16x48000, .f32⟩
  | .hbm, ⟨43, _⟩ => ⟨S16x48000, .f32⟩
  | .hbm, ⟨44, _⟩ => ⟨S16x48000, .f32⟩
  | .hbm, ⟨45, _⟩ => ⟨S16x48000, .f32⟩
  | .hbm, ⟨46, _⟩ => ⟨S16x48000, .f32⟩
  | .hbm, ⟨47, _⟩ => ⟨S16x48000, .i32⟩
  | .hbm, ⟨48, _⟩ => ⟨S16x48000, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i1⟩
  | .hbm, ⟨53, _⟩ => ⟨S_, .i32⟩
  | .hbm, ⟨54, _⟩ => ⟨S_, .i32⟩
  | .hbm, ⟨55, _⟩ => ⟨S16x48000, .i32⟩
  | .hbm, ⟨56, _⟩ => ⟨S16x48000, .i32⟩
  | .hbm, ⟨57, _⟩ => ⟨S_, .i32⟩
  | .hbm, ⟨58, _⟩ => ⟨S16x48000, .i32⟩
  | .hbm, ⟨59, _⟩ => ⟨S16x48000, .i1⟩
  | .hbm, ⟨60, _⟩ => ⟨S_, .i32⟩
  | .hbm, ⟨61, _⟩ => ⟨S16x48000, .i32⟩
  | .hbm, ⟨62, _⟩ => ⟨S16x48000, .i1⟩
  | .hbm, ⟨63, _⟩ => ⟨S_, .i32⟩
  | .hbm, ⟨64, _⟩ => ⟨S_, .i1⟩
  | .hbm, ⟨65, _⟩ => ⟨S16x48000, .i1⟩
  | .hbm, ⟨66, _⟩ => ⟨S16x48000, .i1⟩
  | .hbm, ⟨67, _⟩ => ⟨S16x48000, .i1⟩
  | .hbm, ⟨68, _⟩ => ⟨S16x48000, .i32⟩
  | .hbm, ⟨69, _⟩ => ⟨S16x48000, .i32⟩
  | .hbm, ⟨70, _⟩ => ⟨S16x48000, .i32⟩
  | .hbm, ⟨71, _⟩ => ⟨S_, .i32⟩
  | .hbm, ⟨72, _⟩ => ⟨S16x48000, .i32⟩
  | .hbm, ⟨73, _⟩ => ⟨S16x48000, .i1⟩
  | .hbm, ⟨74, _⟩ => ⟨S_, .i32⟩
  | .hbm, ⟨75, _⟩ => ⟨S16x48000, .i32⟩
  | .hbm, ⟨76, _⟩ => ⟨S16x48000, .i32⟩
  | .hbm, ⟨77, _⟩ => ⟨S16x48000, .i32⟩
  | .hbm, ⟨78, _⟩ => ⟨S16x48000x1, .i32⟩
  | .hbm, ⟨79, _⟩ => ⟨S64x16x48000, .f32⟩
  | .hbm, ⟨80, _⟩ => ⟨S_, .i32⟩
  | .hbm, ⟨81, _⟩ => ⟨S16x48000, .i32⟩
  | .hbm, ⟨82, _⟩ => ⟨S16x48000, .i1⟩
  | .hbm, ⟨83, _⟩ => ⟨S_, .i32⟩
  | .hbm, ⟨84, _⟩ => ⟨S16x48000, .i32⟩
  | .hbm, ⟨85, _⟩ => ⟨S16x48000, .i32⟩
  | .hbm, ⟨86, _⟩ => ⟨S16x48000, .i32⟩
  | .hbm, ⟨87, _⟩ => ⟨S16x48000x1, .i32⟩
  | .hbm, ⟨88, _⟩ => ⟨S64x16x48000, .f32⟩
  | .hbm, ⟨89, _⟩ => ⟨S_, .i32⟩
  | .hbm, ⟨90, _⟩ => ⟨S16x48000, .i32⟩
  | .hbm, ⟨91, _⟩ => ⟨S16x48000, .i1⟩
  | .hbm, ⟨92, _⟩ => ⟨S_, .i32⟩
  | .hbm, ⟨93, _⟩ => ⟨S16x48000, .i32⟩
  | .hbm, ⟨94, _⟩ => ⟨S16x48000, .i32⟩
  | .hbm, ⟨95, _⟩ => ⟨S16x48000, .i32⟩
  | .hbm, ⟨96, _⟩ => ⟨S16x48000x1, .i32⟩
  | .hbm, ⟨97, _⟩ => ⟨S64x16x48000, .f32⟩
  | .hbm, ⟨98, _⟩ => ⟨S64x16x48000, .f32⟩
  | .hbm, ⟨99, _⟩ => ⟨S1x16x48000, .f32⟩
  | .hbm, ⟨100, _⟩ => ⟨S64x16x48000, .f32⟩
  | .hbm, ⟨101, _⟩ => ⟨S64x16x48000, .f32⟩
  | .hbm, ⟨102, _⟩ => ⟨S64x16x48000, .f32⟩
  | .hbm, ⟨103, _⟩ => ⟨S16x48000x64, .f32⟩
  | .hbm, ⟨104, _⟩ => ⟨S16x48000x64, .f32⟩
  | .hbm, ⟨105, _⟩ => ⟨S_, .f32⟩
  | .hbm, ⟨106, _⟩ => ⟨S16x48000, .f32⟩
  | .hbm, ⟨107, _⟩ => ⟨S16x48000x1, .f32⟩
  | .hbm, ⟨108, _⟩ => ⟨S16x48000x1, .f32⟩
  | _, _ => ⟨S16x48000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_call0_cst : Ref sig .tc := ⟨.hbm, 8, rfl⟩
abbrev main_call0_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_cst : Ref sig .tc := ⟨.hbm, 20, rfl⟩
abbrev main_call1_v3 : Ref sig .tc := ⟨.hbm, 21, rfl⟩
abbrev main_call1_v4 : Ref sig .tc := ⟨.hbm, 22, rfl⟩
abbrev main_call1_cst_0 : Ref sig .tc := ⟨.hbm, 23, rfl⟩
abbrev main_call1_v5 : Ref sig .tc := ⟨.hbm, 24, rfl⟩
abbrev main_call1_v6 : Ref sig .tc := ⟨.hbm, 25, rfl⟩
abbrev main_call1_cst_1 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_v12 : Ref sig .tc := ⟨.hbm, 32, rfl⟩
abbrev main_v9 : Ref sig .tc := ⟨.hbm, 33, rfl⟩
abbrev main_cst_0 : Ref sig .tc := ⟨.hbm, 34, rfl⟩
abbrev main_v10 : Ref sig .tc := ⟨.hbm, 35, rfl⟩
abbrev main_v11 : Ref sig .tc := ⟨.hbm, 36, rfl⟩
abbrev main_cst_1 : Ref sig .tc := ⟨.hbm, 37, rfl⟩
abbrev main_v12 : Ref sig .tc := ⟨.hbm, 38, rfl⟩
abbrev main_v13 : Ref sig .tc := ⟨.hbm, 39, rfl⟩
abbrev main_cst_2 : Ref sig .tc := ⟨.hbm, 40, rfl⟩
abbrev main_call2_v0 : Ref sig .tc := ⟨.hbm, 41, rfl⟩
abbrev main_call2_v1 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_c_3 : Ref sig .tc := ⟨.hbm, 49, rfl⟩
abbrev main_call3_v0 : Ref sig .tc := ⟨.hbm, 50, rfl⟩
abbrev main_call3_c : Ref sig .tc := ⟨.hbm, 51, rfl⟩
abbrev main_call3_v1 : Ref sig .tc := ⟨.hbm, 52, rfl⟩
abbrev main_call3_c_0 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_call3_c_1 : Ref sig .tc := ⟨.hbm, 57, rfl⟩
abbrev main_call3_v5 : Ref sig .tc := ⟨.hbm, 58, rfl⟩
abbrev main_call3_v6 : Ref sig .tc := ⟨.hbm, 59, rfl⟩
abbrev main_call3_c_2 : Ref sig .tc := ⟨.hbm, 60, rfl⟩
abbrev main_call3_v7 : Ref sig .tc := ⟨.hbm, 61, rfl⟩
abbrev main_call3_v8 : Ref sig .tc := ⟨.hbm, 62, rfl⟩
abbrev main_call3_c_3 : Ref sig .tc := ⟨.hbm, 63, rfl⟩
abbrev main_call3_v9 : Ref sig .tc := ⟨.hbm, 64, rfl⟩
abbrev main_call3_v10 : Ref sig .tc := ⟨.hbm, 65, rfl⟩
abbrev main_call3_v11 : Ref sig .tc := ⟨.hbm, 66, rfl⟩
abbrev main_call3_v12 : Ref sig .tc := ⟨.hbm, 67, rfl⟩
abbrev main_call3_v13 : Ref sig .tc := ⟨.hbm, 68, rfl⟩
abbrev main_call3_v14 : Ref sig .tc := ⟨.hbm, 69, rfl⟩
abbrev main_v20 : Ref sig .tc := ⟨.hbm, 70, rfl⟩
abbrev main_c_4 : Ref sig .tc := ⟨.hbm, 71, rfl⟩
abbrev main_v21 : Ref sig .tc := ⟨.hbm, 72, rfl⟩
abbrev main_v22 : Ref sig .tc := ⟨.hbm, 73, rfl⟩
abbrev main_c_5 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_c_6 : Ref sig .tc := ⟨.hbm, 80, rfl⟩
abbrev main_v28 : Ref sig .tc := ⟨.hbm, 81, rfl⟩
abbrev main_v29 : Ref sig .tc := ⟨.hbm, 82, rfl⟩
abbrev main_c_7 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_c_8 : Ref sig .tc := ⟨.hbm, 89, rfl⟩
abbrev main_v35 : Ref sig .tc := ⟨.hbm, 90, rfl⟩
abbrev main_v36 : Ref sig .tc := ⟨.hbm, 91, rfl⟩
abbrev main_c_9 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_cst_10 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩

abbrev nD : Nat := 1
abbrev τ : Topo := Topo.v7x

variable {F : FTy → Type} [FloatOps F]
-- ==== Proof.Finite.lean ====
/- What the precondition says: the pitches and the table's samples are real numbers. -/
module

public import proofs.«01_k».proof.Defs
public import Idealize.ShloMosaic.Lib.ValueIdx
public import Idealize.ShloMosaic.Lib.IdealHost

@[expose] public section

noncomputable section

namespace Cert.Wave

open Idealize.ShloMosaic Idealize.ShloMosaic.ValueIdx

/-- The precondition's two broadcasts are well formed. -/
theorem pre_facts : Cert.Pre_finite.Facts := ⟨by decide, by decide⟩

/-- The f32 pattern `0x7F800000` is infinity. -/
theorem f32_infinity : Ideal.ofBits .f32 0x7F800000#32 = (⊤ : EReal) := by
  simp [Ideal.ofBits, Ideal.ieee]

/-- An extended real whose absolute value is below infinity is a real. -/
theorem coe_of_abs_lt {x : EReal} (h : Ideal.cmp .olt (max x (-x)) ⊤ = 1#1) : x = (x.toReal : EReal) := by
  have h' : max x (-x) < ⊤ := by
    by_contra hn
    simp [Ideal.cmp, hn] at h
  refine (EReal.coe_toReal (fun e => ?_) (fun e => ?_)).symm
  · rw [e] at h'; simp at h'
  · rw [e] at h'; simp at h'

/-- Under the precondition every pitch and every sample of the table is a real. -/
theorem real_of_pre [Cert.Pre_finite.Facts] (pitch envelope : FVec Ideal Cert.Pre_finite.S16x48000x1 .f32) (attention : FVec Ideal Cert.Pre_finite.S16x48000x64 .f32)
    (table : FVec Ideal Cert.Pre_finite.S64x512 .f32)
    (h : (Cert.Pre_finite.fn (F := Ideal) pitch envelope attention table).1 = (fun _ => 1#1)
      ∧ (Cert.Pre_finite.fn (F := Ideal) pitch envelope attention table).2 = (fun _ => 1#1)) :
    (∀ i, pitch i = ((pitch i).toReal : EReal)) ∧ (∀ i, table i = ((table i).toReal : EReal)) := by
  refine ⟨fun i => coe_of_abs_lt ?_, fun i => coe_of_abs_lt ?_⟩
  · rw [← f32_infinity]; exact congrFun h.1 i
  · rw [← f32_infinity]; exact congrFun h.2 i

end Cert.Wave

end
-- ==== Proof.Scan.lean ====
/- Running sums by doubling. An array whose entry `j` is the sum of the last `k` terms up to `j`, added to itself moved
   up by `k` places (zeros coming in at the front), has at `j` the sum of the last `2k` terms up to `j`. Fourteen such
   steps from `k = 1` cover a row of 9600. -/
module

public import Idealize.ShloMosaic.PureOps.Ideal
public import Idealize.ShloMosaic.Lib.ValueIdx
public import Idealize.ShloMosaic.Lib.Pipeline.Value

@[expose] public section

noncomputable section

namespace Cert.Wave

open Idealize.ShloMosaic Idealize.ShloMosaic.ValueIdx
open scoped BigOperators

/-- The sum of the last `k` terms of `f` up to and including term `j` (of all of them where there are fewer than `k`). -/
def recent (f : ℕ → EReal) (k j : ℕ) : EReal := ∑ i ∈ Finset.Ico (j + 1 - k) (j + 1), f i

/-- The last one term is the term itself. -/
theorem recent_one (f : ℕ → EReal) (j : ℕ) : recent f 1 j = f j := by
  simp [recent]

/-- Once `k` reaches past the beginning, the last `k` terms are all of them. -/
theorem recent_all (f : ℕ → EReal) {k j : ℕ} (h : j < k) : recent f k j = ∑ i ∈ Finset.range (j + 1), f i := by
  unfold recent
  rw [Nat.sub_eq_zero_of_le h, Finset.range_eq_Ico]

/-- The last `k` terms up to `j` and, where there are more, the `k` terms before those are the last `2k` terms. -/
theorem recent_double (f : ℕ → EReal) (k j : ℕ) :
    recent f k j + (if j < k then 0 else recent f k (j - k)) = recent f (2 * k) j := by
  unfold recent
  split
  · next h => rw [add_zero, Nat.sub_eq_zero_of_le h, Nat.sub_eq_zero_of_le (show j + 1 ≤ 2 * k by omega)]
  · next h =>
    rw [add_comm, show j - k + 1 - k = j + 1 - 2 * k by omega, show j - k + 1 = j + 1 - k by omega]
    exact Finset.sum_Ico_consecutive f (by omega) (by omega)

/-- A row of `n` entries holds at each place the sum of the last `k` terms of `f`. -/
def Sums {n : ℕ} (f : ℕ → EReal) (k : ℕ) (x : FVec Ideal ⟨2, ![1, n]⟩ .f32) : Prop :=
  ∀ j : Fin n, x (ix2 (0 : Fin 1) j) = recent f k j.val

/-- One doubling step as the kernel writes it: the row plus `k` zeros followed by the row's first `n - k` entries. -/
theorem Sums.step {n k r d : ℕ} {f : ℕ → EReal} {x : FVec Ideal ⟨2, ![1, n]⟩ .f32} {z : FVec Ideal ⟨2, ![1, k]⟩ .f32}
    (hx : Sums f k x) (hd : 2 * k = d) (hz : ∀ i, z i = 0)
    (hs : (⟨2, ![1, n]⟩ : Shape).Slices ![0, 0] ⟨2, ![1, r]⟩)
    (hc : Shape.Concatenates [⟨2, ![1, k]⟩, ⟨2, ![1, r]⟩] ⟨2, ![1, n]⟩ 1) :
    Sums f d (addf x (concatenate ⟨2, ![1, n]⟩ 1 [⟨⟨2, ![1, k]⟩, z⟩, ⟨⟨2, ![1, r]⟩, extractStridedSlice ⟨2, ![1, r]⟩ ![0, 0] x hs⟩] hc)) := by
  subst hd
  have hn : k + r = n := by simpa using hc.2.2
  intro j
  rw [addf_apply, hx j, ← recent_double]
  congr 1
  split
  · next h =>
    exact (concatenate_pair_apply_left (t := ⟨2, ![1, n]⟩) (s₁ := ⟨2, ![1, k]⟩) (s₂ := ⟨2, ![1, r]⟩) (1 : Fin 2) z _ hc (ix2 (0 : Fin 1) j) rfl (ix2 (0 : Fin 1) (⟨j.val, h⟩ : Fin k))
      (fun b => by match b with | ⟨0, _⟩ => rfl | ⟨1, _⟩ => rfl)).trans (hz _)
  · next h =>
    have hj := j.isLt
    refine (concatenate_pair_apply_right (t := ⟨2, ![1, n]⟩) (s₁ := ⟨2, ![1, k]⟩) (s₂ := ⟨2, ![1, r]⟩) (1 : Fin 2) z _ hc (ix2 (0 : Fin 1) j) rfl rfl (ix2 (0 : Fin 1) (⟨j.val - k, by omega⟩ : Fin r))
      (fun b hb => by match b with | ⟨0, _⟩ => rfl | ⟨1, _⟩ => exact absurd rfl hb) (show j.val - k + k = j.val by omega)).trans ?_
    rw [← hx ⟨j.val - k, by omega⟩]
    show x _ = _
    congr 1
    funext b
    apply Fin.ext
    match b with
    | ⟨0, _⟩ => rfl
    | ⟨1, _⟩ => show 0 + (j.val - k) = j.val - k; omega

end Cert.Wave

end
-- ==== Proof.Phase.lean ====
/- The place read in a table of 512 samples, as real arithmetic: a phase is brought into `[0, 512)`, split into a whole
   sample and a fraction, and the two neighbouring samples are found. -/
module

public import Idealize.ShloMosaic.PureOps.Ideal
public import Idealize.ShloMosaic.Lib.ValueIdx

@[expose] public section

noncomputable section

namespace Cert.Wave

open Idealize.ShloMosaic Idealize.ShloMosaic.ValueIdx
open scoped BigOperators

/-- The f32 pattern `0x44000000` is 512. -/
theorem f32_512 : Ideal.ofBits .f32 0x44000000#32 = ((512 : ℝ) : EReal) := by
  simp [Ideal.ofBits, Ideal.ieee, -EReal.coe_mul]; norm_num

/-- The f32 pattern `0x43FF8000` is 511. -/
theorem f32_511 : Ideal.ofBits .f32 0x43FF8000#32 = ((511 : ℝ) : EReal) := by
  simp [Ideal.ofBits, Ideal.ieee, -EReal.coe_mul]; norm_num

/-- The f32 pattern `0x3F800000` is 1. -/
theorem f32_1 : Ideal.ofBits .f32 0x3F800000#32 = ((1 : ℝ) : EReal) := by
  simp [Ideal.ofBits, Ideal.ieee, -EReal.coe_mul]; norm_num

/-- The f32 pattern of all zeros is 0. -/
theorem f32_0 : Ideal.ofBits .f32 0x00000000#32 = ((0 : ℝ) : EReal) := by
  simp [Ideal.ofBits, Ideal.ieee]

/-- The increment per hertz, 512/16000 rounded to f32, as a real. -/
def step : ℝ := 8589935 / 268435456

/-- The f32 pattern `0x3D03126F` is the real `step`. -/
theorem f32_step : Ideal.ofBits .f32 0x3D03126F#32 = (step : EReal) := by
  simp [Ideal.ofBits, Ideal.ieee, step, -EReal.coe_mul]; norm_num

/-- The f32 nearest 1e-5, as a real. -/
def tiny : ℝ := 10995116 / 1099511627776

/-- The f32 pattern `0x3727C5AC` is the real `tiny`. -/
theorem f32_tiny : Ideal.ofBits .f32 0x3727C5AC#32 = (tiny : EReal) := by
  simp [Ideal.ofBits, Ideal.ieee, tiny, -EReal.coe_mul]; norm_num

/-- The remainder with the dividend's sign. -/
def signedRem (x : ℝ) : ℝ := x - 512 * (Ideal.truncInt (x / 512) : ℝ)

/-- The phase `x` brought into `[0, 512)`: the remainder with the divisor's sign, and 0 where it is within `tiny` of 512. -/
def wrap (x : ℝ) : ℝ :=
  let r := if signedRem x < 0 then signedRem x + 512 else signedRem x
  if 512 - r < tiny then 0 else r

/-- The remainder with the dividend's sign is less than 512 in size. -/
theorem signedRem_bounds (x : ℝ) : -512 < signedRem x ∧ signedRem x < 512 := by
  unfold signedRem Ideal.truncInt
  split
  · have h1 := Int.floor_le (x / 512); have h2 := Int.lt_floor_add_one (x / 512)
    constructor <;> linarith
  · have h1 := Int.le_ceil (x / 512); have h2 := Int.ceil_lt_add_one (x / 512)
    constructor <;> linarith

/-- The wrapped phase lies in `[0, 512)`. -/
theorem wrap_bounds (x : ℝ) : 0 ≤ wrap x ∧ wrap x < 512 := by
  have ht : (0 : ℝ) < tiny := by unfold tiny; norm_num
  obtain ⟨h1, h2⟩ := signedRem_bounds x
  unfold wrap
  dsimp only
  split_ifs <;> constructor <;> linarith

/-- The sample at or below the wrapped phase. -/
def lo (x : ℝ) : ℕ := ⌊wrap x⌋₊

/-- How far the wrapped phase is past that sample. -/
def frac (x : ℝ) : ℝ := wrap x - (lo x : ℝ)

theorem lo_lt (x : ℝ) : lo x < 512 := by
  have h := wrap_bounds x
  exact (Nat.floor_lt h.1).2 (by exact_mod_cast h.2)

theorem frac_nonneg (x : ℝ) : 0 ≤ frac x := sub_nonneg.2 (Nat.floor_le (wrap_bounds x).1)

theorem frac_lt_one (x : ℝ) : frac x < 1 := by
  have := Nat.lt_floor_add_one (wrap x); unfold frac lo; linarith

theorem wrap_eq (x : ℝ) : wrap x = (lo x : ℝ) + frac x := by unfold frac; ring

/-- The wrapped phase's floor is the sample below. -/
theorem floor_wrap (x : ℝ) : ⌊wrap x⌋ = (lo x : ℤ) := by
  rw [Int.floor_eq_iff]
  have h := wrap_eq x; have h0 := frac_nonneg x; have h1 := frac_lt_one x
  push_cast
  constructor <;> linarith

/-- Its ceiling is that sample when the phase falls on it, and otherwise the next. -/
theorem ceil_wrap (x : ℝ) : ⌈wrap x⌉ = if frac x = 0 then (lo x : ℤ) else (lo x + 1 : ℕ) := by
  have h := wrap_eq x; have h0 := frac_nonneg x; have h1 := frac_lt_one x
  rw [Int.ceil_eq_iff]
  split
  · next hf => rw [hf] at h; push_cast; constructor <;> linarith
  · next hf =>
    have : 0 < frac x := lt_of_le_of_ne h0 (Ne.symm hf)
    push_cast; constructor <;> linarith

/-- The next sample, around the end of the table. -/
def hi (x : ℝ) : ℕ := (lo x + 1) % 512

theorem hi_lt (x : ℝ) : hi x < 512 := Nat.mod_lt _ (by decide)

theorem hi_ne_lo (x : ℝ) : hi x ≠ lo x := by
  have := lo_lt x; unfold hi; omega

/-- A table read at phase `x` by linear interpolation between the two neighbouring samples. -/
def sample (w : ℕ → ℝ) (x : ℝ) : ℝ := w (lo x) + frac x * (w (hi x) - w (lo x))

/-! ## The word a small whole number converts to -/

/-- A whole number under 2³¹ converts to the word that counts it. -/
theorem fptosi_nat (n : ℕ) (h : n < 2147483648) : Ideal.fptosi 32 (((n : ℝ)) : EReal) = BitVec.ofNat 32 n := by
  have hn : (0 : ℝ) ≤ (n : ℝ) := Nat.cast_nonneg n
  rw [Ideal.fptosi, Ideal.toIntClamped_coe, if_pos hn, Int.floor_natCast]
  have : max (-((2 ^ (32 - 1) : ℕ) : ℤ)) (min (((2 ^ (32 - 1) : ℕ) : ℤ) - 1) (n : ℤ)) = (n : ℤ) := by
    norm_num; omega
  rw [this]
  exact BitVec.ofInt_natCast 32 n

/-- Words that count numbers under 512 are equal only if the numbers are. -/
theorem ofNat_inj {a b : ℕ} (ha : a < 512) (hb : b < 512) : BitVec.ofNat 32 a = BitVec.ofNat 32 b ↔ a = b := by
  constructor
  · intro h
    have := congrArg BitVec.toNat h
    simp only [BitVec.toNat_ofNat] at this
    omega
  · rintro rfl; rfl

end Cert.Wave

end
-- ==== Proof.Ops.lean ====
/- The two programs' own spelling of the phase arithmetic, one element at a time, at a real phase: both come to `wrap`,
   and their indices to the words of `lo`, `hi` and the ceiling's sample. -/
module

public import proofs.«01_k».proof.Proof.Phase
public import Idealize.ShloMosaic.Lib.Routing.Words
public import Idealize.ShloMosaic.PureOps.Ideal.Laws

@[expose] public section

noncomputable section

namespace Cert.Wave

open Idealize.ShloMosaic Idealize.ShloMosaic.ValueIdx

/-- A choice on the bit of a decided statement. -/
theorem select_ofBool {α : Type} (p : Prop) [Decidable p] (a b : α) :
    Scalar.select (BitVec.ofBool (decide p)) a b = if p then a else b := by
  by_cases h : p
  · rw [if_pos h, decide_eq_true h]; rfl
  · rw [if_neg h, decide_eq_false h]; rfl

theorem olt_coe (a b : ℝ) : Ideal.cmp .olt (a : EReal) (b : EReal) = BitVec.ofBool (decide (a < b)) := by
  simp only [Ideal.cmp, EReal.coe_lt_coe_iff]

theorem oge_coe (a b : ℝ) : Ideal.cmp .oge (a : EReal) (b : EReal) = BitVec.ofBool (decide (b ≤ a)) := by
  simp only [Ideal.cmp, EReal.coe_le_coe_iff]

theorem one_coe (a b : ℝ) : Ideal.cmp .one (a : EReal) (b : EReal) = BitVec.ofBool (decide (a ≠ b)) := by
  simp only [Ideal.cmp, ne_eq, EReal.coe_eq_coe_iff]

theorem une_coe (a b : ℝ) : Ideal.cmp .une (a : EReal) (b : EReal) = BitVec.ofBool (decide (a ≠ b)) := by
  simp only [Ideal.cmp, ne_eq, EReal.coe_eq_coe_iff]

/-- The float remainder by 512 at a real. -/
theorem remf_512 (x : ℝ) : Ideal.remf (x : EReal) ((512 : ℝ) : EReal) = (signedRem x : EReal) := by
  rw [Ideal.remf_coe, if_neg (by norm_num)]; rfl

/-- The sign test the kernel writes with an exclusive or: negative, and different from zero. -/
theorem negative_xor (r : ℝ) :
    IntOp.andi (IntOp.xori (Ideal.cmp .olt (r : EReal) ((0 : ℝ) : EReal)) (Ideal.cmp .olt ((512 : ℝ) : EReal) ((0 : ℝ) : EReal)))
      (Ideal.cmp .one (r : EReal) ((0 : ℝ) : EReal)) = BitVec.ofBool (decide (r < 0)) := by
  rw [olt_coe, olt_coe, one_coe, decide_eq_false (show ¬ (512 : ℝ) < 0 by norm_num)]
  rcases lt_trichotomy r 0 with h | h | h
  · rw [decide_eq_true h, decide_eq_true h.ne]; rfl
  · subst h; simp [IntOp.andi, IntOp.xori]
  · rw [decide_eq_false h.not_gt, decide_eq_true h.ne']; rfl

/-- The same test as the reference writes it, by comparing the two signs. -/
theorem negative_ne (r : ℝ) :
    IntOp.andi (IntOp.cmpi .ne (Ideal.cmp .olt (r : EReal) ((0 : ℝ) : EReal)) (Ideal.cmp .olt ((512 : ℝ) : EReal) ((0 : ℝ) : EReal)))
      (Ideal.cmp .une (r : EReal) ((0 : ℝ) : EReal)) = BitVec.ofBool (decide (r < 0)) := by
  rw [olt_coe, olt_coe, une_coe, decide_eq_false (show ¬ (512 : ℝ) < 0 by norm_num)]
  rcases lt_trichotomy r 0 with h | h | h
  · rw [decide_eq_true h, decide_eq_true h.ne]; rfl
  · subst h; simp [IntOp.andi, IntOp.cmpi]
  · rw [decide_eq_false h.not_gt, decide_eq_true h.ne']; rfl

/-- Adding 512 to a negative remainder and then putting 0 for what is within `tiny` of 512 gives the wrapped phase. -/
theorem wrap_select (x : ℝ) :
    Scalar.select (Ideal.cmp .olt (((512 : ℝ) : EReal) - Scalar.select (BitVec.ofBool (decide (signedRem x < 0)))
        ((signedRem x : EReal) + ((512 : ℝ) : EReal)) (signedRem x : EReal)) (tiny : EReal)) ((0 : ℝ) : EReal)
      (Scalar.select (BitVec.ofBool (decide (signedRem x < 0))) ((signedRem x : EReal) + ((512 : ℝ) : EReal)) (signedRem x : EReal))
      = (wrap x : EReal) := by
  have e : Scalar.select (BitVec.ofBool (decide (signedRem x < 0))) ((signedRem x : EReal) + ((512 : ℝ) : EReal)) (signedRem x : EReal)
      = ((if signedRem x < 0 then signedRem x + 512 else signedRem x : ℝ) : EReal) := by
    rw [select_ofBool]; split
    · exact (EReal.coe_add _ _).symm
    · rfl
  rw [e, ← EReal.coe_sub, olt_coe, select_ofBool]
  unfold wrap
  dsimp only
  split <;> split <;> rfl

/-- The floor of the wrapped phase. -/
theorem floor_coe (x : ℝ) : Ideal.liftRound Int.floor (wrap x : EReal) = ((lo x : ℝ) : EReal) := by
  rw [Ideal.liftRound_coe, floor_wrap]; simp

/-- The wrapped phase less its floor. -/
theorem sub_floor (x : ℝ) : (wrap x : EReal) - ((lo x : ℝ) : EReal) = (frac x : EReal) := (EReal.coe_sub _ _).symm

/-- The kernel's next sample: 511 taken off from 511 on, else one more. -/
theorem next_select (x : ℝ) :
    Scalar.select (Ideal.cmp .oge ((lo x : ℝ) : EReal) ((511 : ℝ) : EReal)) (((lo x : ℝ) : EReal) - ((511 : ℝ) : EReal))
      (((lo x : ℝ) : EReal) + ((1 : ℝ) : EReal)) = ((hi x : ℝ) : EReal) := by
  have hl := lo_lt x
  rw [oge_coe, select_ofBool, ← EReal.coe_sub, ← EReal.coe_add]
  have key : (511 : ℝ) ≤ (lo x : ℝ) ↔ 511 ≤ lo x := by exact_mod_cast Iff.rfl
  unfold hi
  split
  · next h =>
    have : lo x = 511 := by have := key.1 h; omega
    rw [this]; norm_num
  · next h =>
    have h' : ¬ 511 ≤ lo x := fun q => h (key.2 q)
    rw [Nat.mod_eq_of_lt (by omega)]; push_cast; rfl

/-- The sample the reference reads above: the ceiling, counted around the table. -/
def above (x : ℝ) : ℕ := if frac x = 0 then lo x else hi x

theorem above_lt (x : ℝ) : above x < 512 := by
  unfold above; split
  · exact lo_lt x
  · exact hi_lt x

/-- A small count's word is not negative. -/
theorem slt_zero (n : ℕ) (h : n < 512) : IntOp.cmpi .slt (BitVec.ofNat 32 n) 0#32 = 0#1 := by
  have : (BitVec.ofNat 32 n).slt 0#32 = false := by
    rw [BitVec.slt_eq_decide, decide_eq_false_iff_not, BitVec.toInt_eq_toNat_of_lt (by rw [BitVec.toNat_ofNat]; omega)]
    simp only [BitVec.toNat_ofNat, BitVec.toInt_zero]
    omega
  simp only [IntOp.cmpi, this]; rfl

/-- The reference's ceiling, converted and brought below 512 by the remainder, is the word of the sample above. -/
theorem ceil_rem (x : ℝ) :
    IntOp.remsi .host (Ideal.fptosi 32 (Ideal.liftRound Int.ceil (wrap x : EReal))) (512#32) = BitVec.ofNat 32 (above x) := by
  have hl := lo_lt x
  have e : Ideal.liftRound Int.ceil (wrap x : EReal) = ((((if frac x = 0 then lo x else lo x + 1 : ℕ)) : ℝ) : EReal) := by
    rw [Ideal.liftRound_coe, ceil_wrap]; split <;> simp
  rw [e, fptosi_nat _ (by split <;> omega), show (512#32 : BitVec 32) = BitVec.ofNat 32 512 from rfl,
    Routing.remsi_word .host (by split <;> omega) (by norm_num) (by norm_num)]
  congr 1
  unfold above hi
  split
  · exact Nat.mod_eq_of_lt hl
  · rfl

/-- Reading the sample above instead of the next one changes nothing: where they differ the fraction is zero. -/
theorem sample_above (w : ℕ → ℝ) (x : ℝ) : w (lo x) + frac x * (w (above x) - w (lo x)) = sample w x := by
  unfold sample above
  split
  · next h => rw [h]; ring
  · rfl

/-- The kernel's column of weights, summed against a table: `1 - frac` at `lo`, `frac` at `hi`, zero elsewhere. -/
theorem sum_weights (w : ℕ → ℝ) (x : ℝ) :
    ∑ k : Fin 512, (w k.val : EReal) * ((if k.val = lo x then ((1 - frac x : ℝ) : EReal) else ((0 : ℝ) : EReal))
      + (if k.val = hi x then ((frac x : ℝ) : EReal) else ((0 : ℝ) : EReal))) = (sample w x : EReal) := by
  have e : ∀ k : Fin 512, (w k.val : EReal) * ((if k.val = lo x then ((1 - frac x : ℝ) : EReal) else ((0 : ℝ) : EReal))
      + (if k.val = hi x then ((frac x : ℝ) : EReal) else ((0 : ℝ) : EReal)))
      = ((((if k = ⟨lo x, lo_lt x⟩ then w k.val * (1 - frac x) else 0) + (if k = ⟨hi x, hi_lt x⟩ then w k.val * frac x else 0) : ℝ)) : EReal) := by
    intro k
    simp only [Fin.ext_iff]
    split_ifs <;> (rw [← EReal.coe_add, ← EReal.coe_mul]; congr 1; ring)
  rw [Finset.sum_congr rfl fun k _ => e k]
  have c : ∀ g : Fin 512 → ℝ, ∑ k, ((g k : ℝ) : EReal) = ((∑ k, g k : ℝ) : EReal) := fun g => (map_sum (⟨⟨Real.toEReal, EReal.coe_zero⟩, EReal.coe_add⟩ : ℝ →+ EReal) g Finset.univ).symm
  rw [c, Finset.sum_add_distrib, Finset.sum_ite_eq', Finset.sum_ite_eq', if_pos (Finset.mem_univ _), if_pos (Finset.mem_univ _)]
  congr 1
  unfold sample; ring

end Cert.Wave

end
-- ==== Proof.Body.lean ====
/- What one block computes: from the block's pitch row, the running sum carried in, the first batch's pitch row, the
   table, and the block's attention and envelope, the value stored at each time and the running sum carried out. -/
module

public import proofs.«01_k».proof.Proof.Scan
public import proofs.«01_k».proof.Proof.Ops
public import proofs.«01_k».proof.Proof.Gen.KernelIdeal.Skeleton
public import Idealize.ShloMosaic.Lib.MatmulPlain

@[expose] public section

noncomputable section

namespace Cert.Wave

open Idealize.ShloMosaic Idealize.ShloMosaic.ValueIdx
open Cert.KernelIdeal Cert.KernelIdeal.Gen
open scoped BigOperators

/-! ## The running sum of a block -/

/-- The kernel's first eight doubling steps: each place holds the sum of the last 256 increments. -/
theorem pay3_sums (f : ℕ → EReal) (v3 : FVec Ideal S1x1x1x9600 .f32)
    (hf : ∀ j : Fin 9600, v3 (ix4 (0 : Fin 1) (0 : Fin 1) (0 : Fin 1) j) * (step : EReal) = f j.val) :
    Sums f 256 (k0_pay3 (F := Ideal) v3) := by
  have h0 : Sums f 1 (mulf (shapeCast S1x9600 v3 shapeCasts_S1x1x1x9600_S1x9600) (broadcast S1x9600 (Scalar.ofBits (F := Ideal) .f32 0x3D03126F#32))) := by
    intro j
    rw [recent_one, ← hf j, mulf_apply, broadcast_apply]
    congr 1
    · exact shapeCast_apply _ _ _ _ (by rw [Shape.rowMajor_val_four, Shape.rowMajor_val_two]; simp)
    · exact f32_step
  have z : ∀ (s : Shape) (i : s.Idx), broadcast s (Scalar.ofBits (F := Ideal) .f32 0x00000000#32) i = 0 := fun _ _ => f32_0
  exact (((((((h0.step (d := 2) rfl (z _) _ _).step (d := 4) rfl (z _) _ _).step (d := 8) rfl (z _) _ _).step (d := 16) rfl (z _) _ _).step
    (d := 32) rfl (z _) _ _).step (d := 64) rfl (z _) _ _).step (d := 128) rfl (z _) _ _).step (d := 256) rfl (z _) _ _

/-- The remaining six steps and the carried sum: each place holds the carry plus the sum of the increments up to it. -/
theorem pay6_apply (f : ℕ → EReal) (v3 : FVec Ideal S1x1x1x9600 .f32) (v63 : FVec Ideal S1x1 .f32)
    (hf : ∀ j : Fin 9600, v3 (ix4 (0 : Fin 1) (0 : Fin 1) (0 : Fin 1) j) * (step : EReal) = f j.val) (j : Fin 9600) :
    k0_pay6 (F := Ideal) (k0_pay3 v3) k0_pay4 (k0_pay5 v3) v63 (ix2 (0 : Fin 1) j)
      = (∑ i ∈ Finset.range (j.val + 1), f i) + v63 (ix2 (0 : Fin 1) (0 : Fin 1)) := by
  have z : ∀ (s : Shape) (i : s.Idx), broadcast s (Scalar.ofBits (F := Ideal) .f32 0x00000000#32) i = 0 := fun _ _ => f32_0
  have h := (((((pay3_sums f v3 hf).step (d := 512) rfl (z S1x256) slices_S1x9600_o0_0_S1x9344 concatenates_S1x256_S1x9344_S1x9600_d1).step
    (d := 1024) rfl (z S1x512) slices_S1x9600_o0_0_S1x9088 concatenates_S1x512_S1x9088_S1x9600_d1).step
    (d := 2048) rfl (z S1x1024) slices_S1x9600_o0_0_S1x8576 concatenates_S1x1024_S1x8576_S1x9600_d1).step
    (d := 4096) rfl (z S1x2048) slices_S1x9600_o0_0_S1x7552 concatenates_S1x2048_S1x7552_S1x9600_d1).step
    (d := 8192) rfl (z S1x4096) slices_S1x9600_o0_0_S1x5504 concatenates_S1x4096_S1x5504_S1x9600_d1
  have h' := h.step (d := 16384) rfl (z S1x8192) slices_S1x9600_o0_0_S1x1408 concatenates_S1x8192_S1x1408_S1x9600_d1
  rw [← recent_all f (k := 16384) (by have := j.isLt; omega), ← h' j]
  refine congrArg₂ (· + ·) rfl ?_
  exact broadcastTo_apply _ _ _ _ (fun a => by match a with | ⟨0, _⟩ => rfl | ⟨1, _⟩ => rfl)

/-- The carry stored for the next block is the running sum at the block's last place. -/
theorem pay7_apply (v38 : FVec Ideal S1x9600 .f32) (v39 : FVec Ideal S1x256 .f32) (v40 : FVec Ideal S1x9344 .f32) (v63 : FVec Ideal S1x1 .f32)
    (i : S1x1.Idx) :
    k0_pay7 (F := Ideal) v38 v39 v40 v63 i = k0_pay6 (F := Ideal) v38 v39 v40 v63 (ix2 (0 : Fin 1) (9599 : Fin 9600)) := by
  unfold k0_pay7
  rw [shapeCast_apply _ _ _ (ix2 (0 : Fin 1) (0 : Fin 1)) (by rw [eq_ix2 i, Fin.fin_one_eq_zero (i 0), Fin.fin_one_eq_zero (i 1)]; rfl)]
  show k0_pay6 (F := Ideal) v38 v39 v40 v63 _ = _
  congr 1
  funext b
  apply Fin.ext
  match b with
  | ⟨0, _⟩ => rfl
  | ⟨1, _⟩ => rfl

/-- The phase's remainder: the running sum less the first batch's increment, at a real phase. -/
theorem pay8_apply (v38 : FVec Ideal S1x9600 .f32) (v39 : FVec Ideal S1x256 .f32) (v40 : FVec Ideal S1x9344 .f32) (v63 : FVec Ideal S1x1 .f32)
    (v70 : FVec Ideal S1x1x1x9600 .f32) (j : Fin 9600) (x : ℝ)
    (hx : k0_pay6 (F := Ideal) v38 v39 v40 v63 (ix2 (0 : Fin 1) j)
      - v70 (ix4 (0 : Fin 1) (0 : Fin 1) (0 : Fin 1) j) * (step : EReal) = (x : EReal)) :
    k0_pay8 (F := Ideal) v38 v39 v40 v63 v70 (ix2 (0 : Fin 1) j) = (signedRem x : EReal) := by
  unfold k0_pay8
  rw [← remf_512, ← hx, ← f32_512, ← f32_step]
  show Ideal.remf (_ - shapeCast S1x9600 v70 shapeCasts_S1x1x1x9600_S1x9600 (ix2 (0 : Fin 1) j) * _) _ = _
  rw [shapeCast_apply v70 _ _ (ix4 (0 : Fin 1) (0 : Fin 1) (0 : Fin 1) j) (by rw [Shape.rowMajor_val_four, Shape.rowMajor_val_two]; simp)]
  rfl

/-! ## The table read at a block's phases -/

/-- Where a word counts to, the comparison with the sample's number picks that sample. -/
theorem pick (k : Fin 512) {n : ℕ} (hn : n < 512) (a b : EReal) :
    Scalar.select (IntOp.cmpi .eq (BitVec.ofNat 32 k.val) (BitVec.ofNat 32 n)) a b = if k.val = n then a else b := by
  have e : IntOp.cmpi .eq (BitVec.ofNat 32 k.val) (BitVec.ofNat 32 n) = BitVec.ofBool (decide (k.val = n)) := by
    simp only [IntOp.cmpi, beq_eq_decide, ofNat_inj k.isLt hn]
  rw [e, select_ofBool]

/-- The block's row of remainders with the divisor's sign. -/
def unitRow (v76 : FVec Ideal S1x9600 .f32) (v78 v80 : IVec S1x9600 1) : FVec Ideal S1x9600 .f32 :=
  select (andi (xori v80 (broadcastTo S1x9600 (broadcast S1x9600 (Scalar.cmpf .olt (Scalar.ofBits (F := Ideal) .f32 0x44000000#32)
      (Scalar.ofBits .f32 0x00000000#32))) broadcasts_S1x9600_S1x9600)) v78)
    (addf v76 (broadcast S1x9600 (Scalar.ofBits .f32 0x44000000#32))) v76

/-- The block's row of wrapped phases. -/
def phaseRow (v88 : FVec Ideal S1x9600 .f32) : FVec Ideal S1x9600 .f32 :=
  select (cmpf .olt (subf (broadcast S1x9600 (Scalar.ofBits .f32 0x44000000#32)) v88) (broadcast S1x9600 (Scalar.ofBits .f32 0x3727C5AC#32)))
    (broadcast S1x9600 (Scalar.ofBits .f32 0x00000000#32)) v88

/-- The block's row of next samples, from its row of samples. -/
def nextRow (v95 : FVec Ideal S1x9600 .f32) : FVec Ideal S1x9600 .f32 :=
  select (cmpf .oge v95 (broadcast S1x9600 (Scalar.ofBits .f32 0x43FF8000#32)))
    (subf v95 (broadcast S1x9600 (Scalar.ofBits .f32 0x43FF8000#32))) (addf v95 (broadcast S1x9600 (Scalar.ofBits .f32 0x3F800000#32)))

/-- A row spread over the 512 samples. -/
def spread {α : Type} (y : S1x9600.Idx → α) : S512x9600.Idx → α :=
  broadcastTo S512x9600 (shapeCast S1x9600 y shapeCasts_S1x9600_S1x9600) broadcasts_S1x9600_S512x9600

/-- The weight of each sample at each time, from the fractions and the two words. -/
def weights (v96 : FVec Ideal S1x9600 .f32) (v104 v105 : IVec S1x9600 32) : FVec Ideal S512x9600 .f32 :=
  addf (select (cmpi .eq (iota .tc S512x9600 32 [0] iota_S512x9600_d0_w32) (spread v104))
      (subf (broadcast S512x9600 (Scalar.ofBits .f32 0x3F800000#32)) (spread v96)) (broadcast S512x9600 (Scalar.ofBits .f32 0x00000000#32)))
    (select (cmpi .eq (iota .tc S512x9600 32 [0] iota_S512x9600_d0_w32) (spread v105)) (spread v96)
      (broadcast S512x9600 (Scalar.ofBits .f32 0x00000000#32)))

/-- The kernel's samples in these terms. -/
theorem pay11_eq (v76 : FVec Ideal S1x9600 .f32) (v78 v80 : IVec S1x9600 1) (W : FVec Ideal S64x512 .f32) :
    k0_pay11 (F := Ideal) (Scalar.ofBits .f32 0x44000000#32) v76 v78 v80
      (Scalar.cmpf .olt (Scalar.ofBits (F := Ideal) .f32 0x44000000#32) (Scalar.ofBits .f32 0x00000000#32)) W
      = transpose S9600x64 [1, 0] (matmul dot_S64x512_S512x9600_S64x9600_1_0_0_1_n_n none W
          (weights (subf (phaseRow (unitRow v76 v78 v80)) (floor (phaseRow (unitRow v76 v78 v80))))
            (fptosi 32 (floor (phaseRow (unitRow v76 v78 v80)))) (fptosi 32 (nextRow (floor (phaseRow (unitRow v76 v78 v80))))))
          (constant S64x9600 .f32 0x00000000#32)) transposes_S64x9600_p1_0_S9600x64 := rfl

theorem spread_apply {α : Type} (y : S1x9600.Idx → α) (k : Fin 512) (j : Fin 9600) : spread y (ix2 k j) = y (ix2 (0 : Fin 1) j) := by
  unfold spread
  rw [broadcastTo_apply _ _ (ix2 k j) (ix2 (0 : Fin 1) j) (fun a => by match a with | ⟨0, _⟩ => rfl | ⟨1, _⟩ => rfl)]
  exact shapeCast_apply _ _ _ _ rfl

/-- The weights at a real phase: `1 - frac` at the sample below, `frac` at the next, and zero elsewhere. -/
theorem weights_apply (v96 : FVec Ideal S1x9600 .f32) (v104 v105 : IVec S1x9600 32) (j : Fin 9600) (x : ℝ)
    (e96 : v96 (ix2 (0 : Fin 1) j) = (frac x : EReal)) (e104 : v104 (ix2 (0 : Fin 1) j) = BitVec.ofNat 32 (lo x))
    (e105 : v105 (ix2 (0 : Fin 1) j) = BitVec.ofNat 32 (hi x)) (k : Fin 512) :
    weights v96 v104 v105 (ix2 k j) = (if k.val = lo x then ((1 - frac x : ℝ) : EReal) else ((0 : ℝ) : EReal))
      + (if k.val = hi x then ((frac x : ℝ) : EReal) else ((0 : ℝ) : EReal)) := by
  show Scalar.select (IntOp.cmpi .eq (BitVec.ofNat 32 (0 * 512 + k.val)) (spread v104 (ix2 k j)))
      (Ideal.ofBits .f32 0x3F800000#32 - spread v96 (ix2 k j)) (Ideal.ofBits .f32 0x00000000#32)
    + Scalar.select (IntOp.cmpi .eq (BitVec.ofNat 32 (0 * 512 + k.val)) (spread v105 (ix2 k j))) (spread v96 (ix2 k j))
      (Ideal.ofBits .f32 0x00000000#32) = _
  rw [Nat.zero_mul, Nat.zero_add, spread_apply, spread_apply, spread_apply, e96, e104, e105, f32_0, f32_1, pick k (lo_lt x), pick k (hi_lt x),
    ← EReal.coe_sub]

/-- The row of wrapped phases at a real phase. -/
theorem phaseRow_apply (v76 : FVec Ideal S1x9600 .f32) (v78 v80 : IVec S1x9600 1) (j : Fin 9600) (x : ℝ)
    (h76 : v76 (ix2 (0 : Fin 1) j) = (signedRem x : EReal))
    (h78 : v78 (ix2 (0 : Fin 1) j) = Ideal.cmp .one (signedRem x : EReal) ((0 : ℝ) : EReal))
    (h80 : v80 (ix2 (0 : Fin 1) j) = Ideal.cmp .olt (signedRem x : EReal) ((0 : ℝ) : EReal)) :
    phaseRow (unitRow v76 v78 v80) (ix2 (0 : Fin 1) j) = (wrap x : EReal) := by
  have e88 : unitRow v76 v78 v80 (ix2 (0 : Fin 1) j) = Scalar.select (BitVec.ofBool (decide (signedRem x < 0)))
      ((signedRem x : EReal) + ((512 : ℝ) : EReal)) (signedRem x : EReal) := by
    show Scalar.select (IntOp.andi (IntOp.xori (v80 _) (Ideal.cmp .olt (Ideal.ofBits .f32 0x44000000#32) (Ideal.ofBits .f32 0x00000000#32))) (v78 _))
      (v76 _ + Ideal.ofBits .f32 0x44000000#32) (v76 _) = _
    rw [h78, h80, h76, f32_512, f32_0, negative_xor]
  rw [← wrap_select]
  show Scalar.select (Ideal.cmp .olt (Ideal.ofBits .f32 0x44000000#32 - unitRow v76 v78 v80 _) (Ideal.ofBits .f32 0x3727C5AC#32))
    (Ideal.ofBits .f32 0x00000000#32) (unitRow v76 v78 v80 _) = _
  rw [e88, f32_512, f32_0, f32_tiny]

/-- The block's samples: at time `j` and harmonic `n` the table's row `n` read at the phase `x` of that time. -/
theorem pay11_apply (v76 : FVec Ideal S1x9600 .f32) (v78 v80 : IVec S1x9600 1) (W : FVec Ideal S64x512 .f32) (j : Fin 9600) (n : Fin 64)
    (x : ℝ) (w : ℕ → ℝ) (h76 : v76 (ix2 (0 : Fin 1) j) = (signedRem x : EReal))
    (h78 : v78 (ix2 (0 : Fin 1) j) = Ideal.cmp .one (signedRem x : EReal) ((0 : ℝ) : EReal))
    (h80 : v80 (ix2 (0 : Fin 1) j) = Ideal.cmp .olt (signedRem x : EReal) ((0 : ℝ) : EReal))
    (hW : ∀ k : Fin 512, W (ix2 n k) = (w k.val : EReal)) :
    k0_pay11 (F := Ideal) (Scalar.ofBits .f32 0x44000000#32) v76 v78 v80
      (Scalar.cmpf .olt (Scalar.ofBits (F := Ideal) .f32 0x44000000#32) (Scalar.ofBits .f32 0x00000000#32)) W (ix2 j n)
      = (sample w x : EReal) := by
  rw [pay11_eq]
  have e94 := phaseRow_apply v76 v78 v80 j x h76 h78 h80
  generalize phaseRow (unitRow v76 v78 v80) = v94 at e94 ⊢
  have e95 : floor v94 (ix2 (0 : Fin 1) j) = ((lo x : ℝ) : EReal) := by
    rw [← floor_coe, ← e94]; rfl
  have e96 : subf v94 (floor v94) (ix2 (0 : Fin 1) j) = (frac x : EReal) := by
    rw [← sub_floor, ← e94, ← e95]; rfl
  have e103 : nextRow (floor v94) (ix2 (0 : Fin 1) j) = ((hi x : ℝ) : EReal) := by
    rw [← next_select, ← e95, ← f32_511, ← f32_1]; rfl
  have e104 : fptosi 32 (floor v94) (ix2 (0 : Fin 1) j) = BitVec.ofNat 32 (lo x) := by
    rw [← fptosi_nat _ ((lo_lt x).trans (by norm_num)), ← e95]; rfl
  have e105 : fptosi 32 (nextRow (floor v94)) (ix2 (0 : Fin 1) j) = BitVec.ofNat 32 (hi x) := by
    rw [← fptosi_nat _ ((hi_lt x).trans (by norm_num)), ← e103]; rfl
  refine (transpose_apply _ _ _ (ix2 j n) (ix2 n j) (fun b => by match b with | ⟨0, _⟩ => rfl | ⟨1, _⟩ => rfl)).trans ?_
  refine (Ideal.matmul_plain_apply (M := 64) (K := 512) (N := 9600) none W _ _ n j).trans ?_
  rw [show constant (F := Ideal) S64x9600 .f32 0x00000000#32 (ix2 n j) = 0 from Ideal.ofBits_zero_f32, zero_add, ← sum_weights]
  exact Finset.sum_congr rfl fun k _ => by rw [hW, weights_apply _ _ _ j x e96 e104 e105]

/-! ## The block's result -/

/-- The attention block without its leading axis. -/
theorem pay12_apply (v125 : FVec Ideal S1x9600x64 .f32) (j : Fin 9600) (n : Fin 64) :
    k0_pay12 (F := Ideal) v125 (ix2 j n) = v125 (ix3 (0 : Fin 1) j n) := by
  unfold k0_pay12
  exact shapeCast_apply _ _ _ _ (by simp [Shape.rowMajor_val_two, Shape.rowMajor_val_three])

/-- The stored value: the samples times the attention, summed over the 64 harmonics against a column of ones, times the envelope. -/
theorem pay1_apply (v124 v126 : FVec Ideal S9600x64 .f32) (v128 : FVec Ideal S64x1 .f32) (v131 : FVec Ideal S1x9600x1 .f32)
    (h128 : ∀ i, v128 i = 1) (j : Fin 9600) :
    k0_pay1 (F := Ideal) v124 v126 v128 v131 (ix3 (0 : Fin 1) j (0 : Fin 1))
      = (∑ n : Fin 64, v124 (ix2 j n) * v126 (ix2 j n)) * v131 (ix3 (0 : Fin 1) j (0 : Fin 1)) := by
  unfold k0_pay1
  refine (shapeCast_apply _ _ _ (ix2 j (0 : Fin 1)) (by simp [Shape.rowMajor_val_two, Shape.rowMajor_val_three])).trans ?_
  rw [mulf_apply]
  congr 1
  · refine (Ideal.matmul_plain_apply (M := 9600) (K := 64) (N := 1) none _ _ _ j (0 : Fin 1)).trans ?_
    rw [show constant (F := Ideal) S9600x1 .f32 0x00000000#32 (ix2 j (0 : Fin 1)) = 0 from Ideal.ofBits_zero_f32, zero_add]
    refine Finset.sum_congr rfl fun n _ => ?_
    rw [show shapeCast S64x1 v128 shapeCasts_S64x1_S64x1 (ix2 n (0 : Fin 1)) = 1 from (shapeCast_apply _ _ _ _ rfl).trans (h128 _), mul_one]
    rfl
  · exact shapeCast_apply _ _ _ _ (by simp [Shape.rowMajor_val_two, Shape.rowMajor_val_three])

end Cert.Wave

end
-- ==== Proof.Formula.lean ====
/- What the problem asks for at one time of one batch, over finite pitches and a finite table. -/
module

public import proofs.«01_k».proof.Proof.Phase

@[expose] public section

noncomputable section

namespace Cert.Wave

open Idealize.ShloMosaic
open scoped BigOperators

/-- A finite sum of reals is the same sum among the extended reals. -/
theorem coe_sum (s : Finset ℕ) (f : ℕ → ℝ) : ((∑ k ∈ s, f k : ℝ) : EReal) = ∑ k ∈ s, (f k : EReal) :=
  map_sum (⟨⟨Real.toEReal, EReal.coe_zero⟩, EReal.coe_add⟩ : ℝ →+ EReal) f s

/-- The phase at time `i` of batch `b`: the increments summed up to `i`, less the first batch's increment at `i`. -/
def phase (p : ℕ → ℕ → ℝ) (b i : ℕ) : ℝ := (∑ k ∈ Finset.range (i + 1), p b k * step) - p 0 i * step

/-- The same written over the extended reals. -/
theorem phase_coe (p : ℕ → ℕ → ℝ) (b i : ℕ) :
    (∑ k ∈ Finset.range (i + 1), (p b k : EReal) * (step : EReal)) - (p 0 i : EReal) * (step : EReal) = (phase p b i : EReal) := by
  unfold phase
  rw [EReal.coe_sub, coe_sum, EReal.coe_mul]
  simp only [EReal.coe_mul]

/-- The value at time `i` of batch `b`: the 64 tables read at the phase, each times its attention, summed, times the envelope. -/
def value (p w : ℕ → ℕ → ℝ) (att : Fin 64 → EReal) (env : EReal) (b i : ℕ) : EReal :=
  (∑ n : Fin 64, (sample (w n.val) (phase p b i) : EReal) * att n) * env

end Cert.Wave

end
-- ==== Proof.Stores.lean ====
/- What one run of the body leaves behind: the block it stores, and the carry. -/
module

public import proofs.«01_k».proof.Proof.Gen.KernelIdeal.Frame
public import Idealize.ShloMosaic.Lib.Pipeline.Value
public import Idealize.ShloMosaic.Lib.Tactic
public import Idealize.ShloMosaic.Lib.ValueIdx
public import Idealize.ShloMosaic.Lib.IdealHost

@[expose] public section

set_option maxRecDepth 16384

noncomputable section

namespace Cert.Wave.Stores

open Idealize.ShloMosaic Idealize.ShloMosaic.TcCoe Idealize.SL.Sem
open Idealize.ShloMosaic.ValueIdx
open Cert.KernelIdeal Cert.KernelIdeal.Gen

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The number at the scratch's corner, the one the carry occupies. -/
abbrev corner (s : Vec Ideal S8x128 .f32) : Vec Ideal S1x1 .f32 := View.ld s (Rect.unit (s := S8x128) ![0, 0] ![1, 1] inb_S8x128_S1x1_0_0)

/-- The block the body stores, from the blocks it reads and the carry it finds. -/
abbrev stored (x0 x1 : Vec Ideal S1x1x1x9600 .f32) (x2 : Vec Ideal S1x9600x1 .f32) (x3 : Vec Ideal S1x9600x64 .f32) (x4 : Vec Ideal S64x512 .f32)
    (x5 : Vec Ideal S64x1 .f32) (v63 : Vec Ideal S1x1 .f32) : Vec Ideal S1x9600x1 .f32 :=
  k0_pay1 (k0_pay11 (Scalar.ofBits .f32 0x44000000#32) (k0_pay8 (k0_pay3 x0) k0_pay4 (k0_pay5 x0) v63 x1) (k0_pay9 (k0_pay3 x0) k0_pay4 (k0_pay5 x0) v63 x1)
    (k0_pay10 (k0_pay3 x0) k0_pay4 (k0_pay5 x0) v63 x1) (Scalar.cmpf .olt (Scalar.ofBits (F := Ideal) .f32 0x44000000#32) (Scalar.ofBits .f32 0x00000000#32)) x4) (k0_pay12 x3) x5 x2

/-- A scratch just filled with `s`, read at its corner. -/
theorem corner_filled (v : View sig .tc .vmem S8x128 .f32) (s : Vec Ideal S8x128 .f32) :
    v.readCov [(⟨Rect.unit (s := S8x128) ![0, 0] S8x128.size inb_S8x128_S8x128_0_0, s⟩ : View.Piece (Elt Ideal) S8x128 .f32)]
      (Rect.unit (s := S8x128) ![0, 0] S1x1.size inb_S8x128_S1x1_0_0).toLoadRect = corner s := by
  funext y
  exact View.read_writes_cons_hit_of_coords v v.junk (Rect.unit (s := S8x128) ![0, 0] S8x128.size inb_S8x128_S8x128_0_0) s []
    ((Rect.unit (s := S8x128) ![0, 0] S1x1.size inb_S8x128_S1x1_0_0).emb y) _ (fun a => by match a with
      | ⟨0, _⟩ => exact (show ∀ n, n = 0 + 1 * n by omega) _
      | ⟨1, _⟩ => exact (show ∀ n, n = 0 + 1 * n by omega) _)

variable (c : Dev nD) (i : grid0.Coords) (arg2 : Memref sig .tc .vmem S1x1x1x9600 .f32) (harg2 : arg2.IsWhole) (arg3 : Memref sig .tc .vmem S1x1x1x9600 .f32) (harg3 : arg3.IsWhole) (arg4 : Memref sig .tc .vmem S1x9600x1 .f32) (harg4 : arg4.IsWhole) (arg5 : Memref sig .tc .vmem S1x9600x64 .f32) (harg5 : arg5.IsWhole) (arg6 : Memref sig .tc .vmem S64x512 .f32) (harg6 : arg6.IsWhole) (arg7 : Memref sig .tc .vmem S64x1 .f32) (harg7 : arg7.IsWhole) (arg8 : Memref sig .tc .vmem S1x9600x1 .f32) (harg8 : arg8.IsWhole) (arg9 : Memref sig .tc .vmem S8x128 .f32) (harg9 : arg9.IsWhole)
    (x0 x1 : Vec Ideal S1x1x1x9600 .f32) (x2 : Vec Ideal S1x9600x1 .f32) (x3 : Vec Ideal S1x9600x64 .f32) (x4 : Vec Ideal S64x512 .f32) (x5 : Vec Ideal S64x1 .f32) (xs0 : Vec Ideal S8x128 .f32)

/-- Away from a batch's first tile the block is `stored` at the carry found. -/
theorem out_B (hc0 : ¬cond0_0 i) : out0_B_6 c i arg2 harg2 arg3 harg3 arg4 harg4 arg5 harg5 arg6 harg6 arg7 harg7 arg8 harg8 arg9 harg9 hc0 x0 x1 x2 x3 x4 x5 xs0
    = stored x0 x1 x2 x3 x4 x5 (corner xs0) := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 x5 xs0)]
  unfold kernelRun0_B
  dsimp only
  sl_unfold_words
  rw [View.canon_unit_zero zeros3]
  simp only [View.readAt_eq_ld, harg2.read_unread, harg3.read_unread, harg4.read_unread, harg5.read_unread, harg6.read_unread, harg7.read_unread, harg9.read_unread,
    View.ld_unit_zero (S := S1x1x1x9600) zeros4, View.ld_unit_zero (S := S1x9600x1) zeros3, View.ld_unit_zero (S := S1x9600x64) zeros3,
    View.ld_unit_zero (S := S64x512) zeros2, View.ld_unit_zero (S := S64x1) zeros2]

/-- Away from a batch's first tile the carry left is the last of the running sums from the carry found. -/
theorem carry_B (hc0 : ¬cond0_0 i) : sout0_B_0 c i arg2 harg2 arg3 harg3 arg4 harg4 arg5 harg5 arg6 harg6 arg7 harg7 arg8 harg8 arg9 harg9 hc0 x0 x1 x2 x3 x4 x5 xs0 (ix2 0 0)
    = k0_pay7 (k0_pay3 x0) k0_pay4 (k0_pay5 x0) (corner xs0) (ix2 0 0) := by
  unfold sout0_B_0 kernelRun0_B
  dsimp only
  sl_unfold_words
  refine (View.read_writes_cons_hit_of_coords _ _ _ _ _ (ix2 (0 : Fin 1) (0 : Fin 1)) _ (fun a => by match a with | ⟨0, _⟩ => rfl | ⟨1, _⟩ => rfl)).trans ?_
  simp only [View.readAt_eq_ld, harg2.read_unread, harg3.read_unread, harg4.read_unread, harg5.read_unread, harg6.read_unread, harg7.read_unread, harg9.read_unread,
    View.ld_unit_zero (S := S1x1x1x9600) zeros4, View.ld_unit_zero (S := S1x9600x1) zeros3, View.ld_unit_zero (S := S1x9600x64) zeros3,
    View.ld_unit_zero (S := S64x512) zeros2, View.ld_unit_zero (S := S64x1) zeros2]

/-- At a batch's first tile the block is `stored` at the carry of a scratch filled with zeros. -/
theorem out_A (hc0 : cond0_0 i) : out0_A_6 c i arg2 harg2 arg3 harg3 arg4 harg4 arg5 harg5 arg6 harg6 arg7 harg7 arg8 harg8 arg9 harg9 hc0 x0 x1 x2 x3 x4 x5
    = stored x0 x1 x2 x3 x4 x5 (corner (k0_pay2 (F := Ideal))) := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_unit_zero zeros3, corner_filled]
  simp only [View.readAt_eq_ld, harg2.read_unread, harg3.read_unread, harg4.read_unread, harg5.read_unread, harg6.read_unread, harg7.read_unread, harg9.read_unread,
    View.ld_unit_zero (S := S1x1x1x9600) zeros4, View.ld_unit_zero (S := S1x9600x1) zeros3, View.ld_unit_zero (S := S1x9600x64) zeros3,
    View.ld_unit_zero (S := S64x512) zeros2, View.ld_unit_zero (S := S64x1) zeros2]

/-- At a batch's first tile the carry left is the last of the running sums from a scratch filled with zeros. -/
theorem carry_A (hc0 : cond0_0 i) : sout0_A_0 c i arg2 harg2 arg3 harg3 arg4 harg4 arg5 harg5 arg6 harg6 arg7 harg7 arg8 harg8 arg9 harg9 hc0 x0 x1 x2 x3 x4 x5 (ix2 0 0)
    = k0_pay7 (k0_pay3 x0) k0_pay4 (k0_pay5 x0) (corner (k0_pay2 (F := Ideal))) (ix2 0 0) := by
  unfold sout0_A_0 kernelRun0_A
  dsimp only
  sl_unfold_words
  refine (View.read_writes_cons_hit_of_coords _ _ _ _ _ (ix2 (0 : Fin 1) (0 : Fin 1)) _ (fun a => by match a with | ⟨0, _⟩ => rfl | ⟨1, _⟩ => rfl)).trans ?_
  rw [corner_filled]
  simp only [View.readAt_eq_ld, harg2.read_unread, harg3.read_unread, harg4.read_unread, harg5.read_unread, harg6.read_unread, harg7.read_unread, harg9.read_unread,
    View.ld_unit_zero (S := S1x1x1x9600) zeros4, View.ld_unit_zero (S := S1x9600x1) zeros3, View.ld_unit_zero (S := S1x9600x64) zeros3,
    View.ld_unit_zero (S := S64x512) zeros2, View.ld_unit_zero (S := S64x1) zeros2]

end Cert.Wave.Stores

end
-- ==== Proof.Tile.lean ====
/- What one block computes from a tile of finite pitches and the carry of the tiles before it. -/
module

public import proofs.«01_k».proof.Proof.Body
public import proofs.«01_k».proof.Proof.Formula
public import proofs.«01_k».proof.Proof.Stores

@[expose] public section

noncomputable section

namespace Cert.Wave.Tile

open Idealize.ShloMosaic
open Idealize.ShloMosaic.ValueIdx
open Cert.KernelIdeal Cert.KernelIdeal.Gen
open Cert.Wave.Stores
open scoped BigOperators

variable (p w : ℕ → ℕ → ℝ) (b k : ℕ)

/-- The increments of batch `b` summed over the first `n` times. -/
abbrev total (n : ℕ) : EReal := ∑ r ∈ Finset.range n, (p b r : EReal) * (step : EReal)

variable (x0 x1 : FVec Ideal S1x1x1x9600 .f32) (x2 : FVec Ideal S1x9600x1 .f32) (x3 : FVec Ideal S1x9600x64 .f32)
  (x4 : FVec Ideal S64x512 .f32) (x5 : FVec Ideal S64x1 .f32) (v63 : FVec Ideal S1x1 .f32)
  (h0 : ∀ j : Fin 9600, x0 (ix4 (0 : Fin 1) (0 : Fin 1) (0 : Fin 1) j) = (p b (9600 * k + j.val) : EReal))
  (h1 : ∀ j : Fin 9600, x1 (ix4 (0 : Fin 1) (0 : Fin 1) (0 : Fin 1) j) = (p 0 (9600 * k + j.val) : EReal))
  (h4 : ∀ (n : Fin 64) (i : Fin 512), x4 (ix2 n i) = (w n.val i.val : EReal))
  (h5 : ∀ i, x5 i = (1 : EReal))
  (hc : v63 (ix2 (0 : Fin 1) (0 : Fin 1)) = total p b (9600 * k))

include h0 hc in
/-- The running sums of tile `k` go on from the sum over the tiles before it. -/
theorem running (j : Fin 9600) : k0_pay6 (F := Ideal) (k0_pay3 x0) k0_pay4 (k0_pay5 x0) v63 (ix2 (0 : Fin 1) j) = total p b (9600 * k + (j.val + 1)) := by
  rw [pay6_apply (fun r => (p b (9600 * k + r) : EReal) * (step : EReal)) x0 v63 (fun j => by rw [h0 j]) j, hc, add_comm]
  exact (Finset.sum_range_add _ _ _).symm

include h0 hc in
/-- The carry left is the sum up to the end of tile `k`. -/
theorem carried : k0_pay7 (F := Ideal) (k0_pay3 x0) k0_pay4 (k0_pay5 x0) v63 (ix2 (0 : Fin 1) (0 : Fin 1)) = total p b (9600 * (k + 1)) := by
  rw [pay7_apply, running p b k x0 v63 h0 hc]
  exact congrArg (total p b) (show 9600 * k + (9599 + 1) = 9600 * (k + 1) by omega)

include h0 h1 hc in
/-- The remainders of tile `k` are those of the phase. -/
theorem remainder (j : Fin 9600) : k0_pay8 (F := Ideal) (k0_pay3 x0) k0_pay4 (k0_pay5 x0) v63 x1 (ix2 (0 : Fin 1) j) = (signedRem (phase p b (9600 * k + j.val)) : EReal) := by
  apply pay8_apply
  rw [running p b k x0 v63 h0 hc, h1 j]
  exact phase_coe p b (9600 * k + j.val)

include h0 h1 h4 h5 hc in
/-- The block stored for tile `k` holds the value the problem asks for at each of the tile's times. -/
theorem stored_apply (j : Fin 9600) : stored x0 x1 x2 x3 x4 x5 v63 (ix3 (0 : Fin 1) j (0 : Fin 1))
    = value p w (fun n => x3 (ix3 (0 : Fin 1) j n)) (x2 (ix3 (0 : Fin 1) j (0 : Fin 1))) b (9600 * k + j.val) := by
  have h76 := remainder p b k x0 x1 v63 h0 h1 hc j
  unfold stored value
  rw [pay1_apply _ _ _ _ h5]
  congr 1
  refine Finset.sum_congr rfl fun n _ => ?_
  rw [pay12_apply]
  congr 1
  refine pay11_apply _ _ _ x4 j n (phase p b (9600 * k + j.val)) (w n.val) h76 ?_ ?_ (h4 n)
  · rw [← f32_0, ← h76]; rfl
  · rw [← f32_0, ← h76]; rfl

end Cert.Wave.Tile

end
-- ==== Proof.Windows.lean ====
/- What the kernel's input blocks hold, in terms of the arguments. -/
module

public import proofs.«01_k».proof.Proof.Gen.KernelIdeal.Frame
public import proofs.«01_k».proof.Proof.Phase
public import Idealize.ShloMosaic.Lib.Pipeline.Value
public import Idealize.ShloMosaic.Lib.Tactic
public import Idealize.ShloMosaic.Lib.ValueIdx
public import Idealize.ShloMosaic.Lib.IdealHost

@[expose] public section

noncomputable section

namespace Cert.Wave.Windows

open Idealize.ShloMosaic Idealize.ShloMosaic.TcCoe Idealize.SL.Sem
open Idealize.ShloMosaic.ValueIdx
open Cert.KernelIdeal Cert.KernelIdeal.Gen

variable (m : (ℓ : Loc nD τ sig) → Buf (Elt Ideal) ℓ) (c : Dev nD)

/-- The arguments, as vectors. -/
abbrev pitch : FVec Ideal S16x48000x1 .f32 := m ((c : Thread nD τ).loc main_arg0)
abbrev envelope : FVec Ideal S16x48000x1 .f32 := m ((c : Thread nD τ).loc main_arg1)
abbrev attention : FVec Ideal S16x48000x64 .f32 := m ((c : Thread nD τ).loc main_arg2)
abbrev table : FVec Ideal S64x512 .f32 := m ((c : Thread nD τ).loc main_arg3)

/-- The pitch the region finds: the argument cut into tiles. -/
theorem V_tiles : (V m c main_v0 : FVec Ideal S16x5x1x9600 .f32) = shapeCast S16x5x1x9600 (pitch m c) shapeCasts_S16x48000x1_S16x5x1x9600 := by
  rfl

/-- The column of ones the region finds. -/
theorem V_ones : (V m c main_v1 : FVec Ideal S64x1 .f32) = broadcastInDim S64x1 ![] bcast_S_S64x1 (constant (F := Ideal) S_ .f32 0x3F800000#32) := by
  rfl

/-- Which block each window is on at point `t`: batch `t / 5`, tile `t % 5`. -/
theorem index0 : ∀ t : Fin cfg0.N, win0_0.index t = ![t.val / 5, t.val % 5, 0, 0] := (by decide +kernel : ∀ t : Fin grid0.N, _)
theorem index1 : ∀ t : Fin cfg0.N, win0_1.index t = ![0, t.val % 5, 0, 0] := (by decide +kernel : ∀ t : Fin grid0.N, _)
theorem index2 : ∀ t : Fin cfg0.N, win0_2.index t = ![t.val / 5, t.val % 5, 0] := (by decide +kernel : ∀ t : Fin grid0.N, _)
theorem index3 : ∀ t : Fin cfg0.N, win0_3.index t = ![t.val / 5, t.val % 5, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)

/-- The batch point `t` works on, and the time of place `j` of its tile. -/
abbrev batch (t : Fin cfg0.N) : Fin 16 := ⟨t.val / 5, by have := lt_of_lt_of_eq t.isLt (show cfg0.N = 80 from N_0); omega⟩
abbrev time (t : Fin cfg0.N) (j : Fin 9600) : Fin 48000 := ⟨9600 * (t.val % 5) + j.val, by have := j.isLt; omega⟩

/-- The pitch of the tile. -/
theorem block0 (t : Fin cfg0.N) (j : Fin 9600) : (iblk m c 0 t : FVec Ideal S1x1x1x9600 .f32) (ix4 (0 : Fin 1) (0 : Fin 1) (0 : Fin 1) j)
    = pitch m c (ix3 (batch t) (time t j) (0 : Fin 1)) := by
  have e0 : (((cfg0.win 0).blk t).view.emb (ix4 (0 : Fin 1) (0 : Fin 1) (0 : Fin 1) j) 0).val = win0_0.index t (0 : Fin 4) * 1 + 1 * 0 := rfl
  have e1 : (((cfg0.win 0).blk t).view.emb (ix4 (0 : Fin 1) (0 : Fin 1) (0 : Fin 1) j) 1).val = win0_0.index t (1 : Fin 4) * 1 + 1 * 0 := rfl
  have e2 : (((cfg0.win 0).blk t).view.emb (ix4 (0 : Fin 1) (0 : Fin 1) (0 : Fin 1) j) 2).val = win0_0.index t (2 : Fin 4) * 1 + 1 * 0 := rfl
  have e3 : (((cfg0.win 0).blk t).view.emb (ix4 (0 : Fin 1) (0 : Fin 1) (0 : Fin 1) j) 3).val = win0_0.index t (3 : Fin 4) * 9600 + 1 * j.val := rfl
  unfold iblk
  rw [View.read_apply]
  refine (congrFun (V_tiles m c) _).trans (shapeCast_apply _ _ _ _ ?_)
  rw [Shape.rowMajor_val_four, Shape.rowMajor_val_three, e0, e1, e2, e3, index0]
  show ((t.val / 5) * 48000 + (9600 * (t.val % 5) + j.val)) * 1 + 0
    = (((t.val / 5 * 1 + 1 * 0) * 5 + (t.val % 5 * 1 + 1 * 0)) * 1 + (0 * 1 + 1 * 0)) * 9600 + (0 * 9600 + 1 * j.val)
  omega

/-- The pitch of the first batch at the same times. -/
theorem block1 (t : Fin cfg0.N) (j : Fin 9600) : (iblk m c 1 t : FVec Ideal S1x1x1x9600 .f32) (ix4 (0 : Fin 1) (0 : Fin 1) (0 : Fin 1) j)
    = pitch m c (ix3 (0 : Fin 16) (time t j) (0 : Fin 1)) := by
  have e0 : (((cfg0.win 1).blk t).view.emb (ix4 (0 : Fin 1) (0 : Fin 1) (0 : Fin 1) j) 0).val = win0_1.index t (0 : Fin 4) * 1 + 1 * 0 := rfl
  have e1 : (((cfg0.win 1).blk t).view.emb (ix4 (0 : Fin 1) (0 : Fin 1) (0 : Fin 1) j) 1).val = win0_1.index t (1 : Fin 4) * 1 + 1 * 0 := rfl
  have e2 : (((cfg0.win 1).blk t).view.emb (ix4 (0 : Fin 1) (0 : Fin 1) (0 : Fin 1) j) 2).val = win0_1.index t (2 : Fin 4) * 1 + 1 * 0 := rfl
  have e3 : (((cfg0.win 1).blk t).view.emb (ix4 (0 : Fin 1) (0 : Fin 1) (0 : Fin 1) j) 3).val = win0_1.index t (3 : Fin 4) * 9600 + 1 * j.val := rfl
  unfold iblk
  rw [View.read_apply]
  refine (congrFun (V_tiles m c) _).trans (shapeCast_apply _ _ _ _ ?_)
  rw [Shape.rowMajor_val_four, Shape.rowMajor_val_three, e0, e1, e2, e3, index1]
  show (0 * 48000 + (9600 * (t.val % 5) + j.val)) * 1 + 0
    = (((0 * 1 + 1 * 0) * 5 + (t.val % 5 * 1 + 1 * 0)) * 1 + (0 * 1 + 1 * 0)) * 9600 + (0 * 9600 + 1 * j.val)
  omega

/-- The envelope of the tile. -/
theorem block2 (t : Fin cfg0.N) (j : Fin 9600) : (iblk m c 2 t : FVec Ideal S1x9600x1 .f32) (ix3 (0 : Fin 1) j (0 : Fin 1))
    = envelope m c (ix3 (batch t) (time t j) (0 : Fin 1)) := by
  have e0 : (((cfg0.win 2).blk t).view.emb (ix3 (0 : Fin 1) j (0 : Fin 1)) 0).val = win0_2.index t (0 : Fin 3) * 1 + 1 * 0 := rfl
  have e1 : (((cfg0.win 2).blk t).view.emb (ix3 (0 : Fin 1) j (0 : Fin 1)) 1).val = win0_2.index t (1 : Fin 3) * 9600 + 1 * j.val := rfl
  have e2 : (((cfg0.win 2).blk t).view.emb (ix3 (0 : Fin 1) j (0 : Fin 1)) 2).val = win0_2.index t (2 : Fin 3) * 1 + 1 * 0 := rfl
  rw [index2] at e0 e1 e2
  unfold iblk
  rw [View.read_apply]
  refine congrArg (envelope m c) (funext fun a => Fin.ext ?_)
  fin_cases a
  · exact e0.trans (show t.val / 5 * 1 + 1 * 0 = t.val / 5 by omega)
  · exact e1.trans (show t.val % 5 * 9600 + 1 * j.val = 9600 * (t.val % 5) + j.val by omega)
  · exact e2

/-- The attention of the tile. -/
theorem block3 (t : Fin cfg0.N) (j : Fin 9600) (n : Fin 64) : (iblk m c 3 t : FVec Ideal S1x9600x64 .f32) (ix3 (0 : Fin 1) j n)
    = attention m c (ix3 (batch t) (time t j) n) := by
  have e0 : (((cfg0.win 3).blk t).view.emb (ix3 (0 : Fin 1) j n) 0).val = win0_3.index t (0 : Fin 3) * 1 + 1 * 0 := rfl
  have e1 : (((cfg0.win 3).blk t).view.emb (ix3 (0 : Fin 1) j n) 1).val = win0_3.index t (1 : Fin 3) * 9600 + 1 * j.val := rfl
  have e2 : (((cfg0.win 3).blk t).view.emb (ix3 (0 : Fin 1) j n) 2).val = win0_3.index t (2 : Fin 3) * 64 + 1 * n.val := rfl
  rw [index3] at e0 e1 e2
  unfold iblk
  rw [View.read_apply]
  refine congrArg (attention m c) (funext fun a => Fin.ext ?_)
  fin_cases a
  · exact e0.trans (show t.val / 5 * 1 + 1 * 0 = t.val / 5 by omega)
  · exact e1.trans (show t.val % 5 * 9600 + 1 * j.val = 9600 * (t.val % 5) + j.val by omega)
  · exact e2.trans (show 0 * 64 + 1 * n.val = n.val by omega)

/-- Every point sees the whole table of wavetables. -/
theorem block4 (t : Fin cfg0.N) (n : Fin 64) (k : Fin 512) : (iblk m c 4 t : FVec Ideal S64x512 .f32) (ix2 n k) = table m c (ix2 n k) := by
  have e0 : (((cfg0.win 4).blk t).view.emb (ix2 n k) 0).val = win0_4.index t (0 : Fin 2) * 64 + 1 * n.val := rfl
  have e1 : (((cfg0.win 4).blk t).view.emb (ix2 n k) 1).val = win0_4.index t (1 : Fin 2) * 512 + 1 * k.val := rfl
  rw [index4] at e0 e1
  unfold iblk
  rw [View.read_apply]
  refine congrArg (table m c) (funext fun a => Fin.ext ?_)
  fin_cases a
  · exact e0.trans (show 0 * 64 + 1 * n.val = n.val by omega)
  · exact e1.trans (show 0 * 512 + 1 * k.val = k.val by omega)

/-- Every point sees the column of ones. -/
theorem block5 (t : Fin cfg0.N) (i : S64x1.Idx) : (iblk m c 5 t : FVec Ideal S64x1 .f32) i = (1 : EReal) := by
  unfold iblk
  rw [View.read_apply]
  refine (congrFun (V_ones m c) _).trans ?_
  exact (broadcastInDim_scalar_apply _ _ _).trans (Wave.f32_1.trans EReal.coe_one)

end Cert.Wave.Windows
-- ==== Proof.Carry.lean ====
/- What the kernel's output array holds, by induction over the grid's points. -/
module

public import proofs.«01_k».proof.Proof.Tile
public import proofs.«01_k».proof.Proof.Windows
public import proofs.«01_k».proof.Proof.Gen.KernelIdeal.Value

@[expose] public section

noncomputable section

namespace Cert.Wave.Carry

open Idealize.ShloMosaic Idealize.ShloMosaic.TcCoe Idealize.SL.Sem
open Idealize.ShloMosaic.ValueIdx
open Cert.KernelIdeal Cert.KernelIdeal.Gen Cert.KernelIdeal.Value
open Cert.Wave.Stores Cert.Wave.Windows Cert.Wave.Tile

variable (m : (ℓ : Loc nD τ sig) → Buf (Elt Ideal) ℓ) (c : Dev nD) (p w : ℕ → ℕ → ℝ)
  (hp : ∀ (b : Fin 16) (i : Fin 48000), pitch m c (ix3 b i (0 : Fin 1)) = (p b.val i.val : EReal))
  (hw : ∀ (n : Fin 64) (k : Fin 512), table m c (ix2 n k) = (w n.val k.val : EReal))

/-- The carry is read from the scratch's first place. -/
theorem corner_apply (s : Vec Ideal S8x128 .f32) : corner s (ix2 (0 : Fin 1) (0 : Fin 1)) = s (ix2 (0 : Fin 8) (0 : Fin 128)) := by
  show s _ = s _
  refine congrArg s (funext fun a => Fin.ext ?_)
  fin_cases a <;> rfl

/-- A scratch filled with zeros carries the empty sum. -/
theorem corner_zero (b : ℕ) : corner (k0_pay2 (F := Ideal)) (ix2 (0 : Fin 1) (0 : Fin 1)) = total p b (9600 * 0) :=
  (corner_apply _).trans ((f32_0 : (k0_pay2 (F := Ideal) _ : EReal) = _).trans (Finset.sum_range_zero _).symm)

/-- The value the problem asks for at batch `b` and time `i`, with the attention and the envelope the arguments hold there. -/
abbrev wanted (b : Fin 16) (i : Fin 48000) : EReal :=
  value p w (fun n => attention m c (ix3 b i n)) (envelope m c (ix3 b i (0 : Fin 1))) b.val i.val

/-- What point `t` leaves: the carry up to its tile's end, and the wanted value at each of its tile's times. -/
def Left (t : Fin cfg0.N) : Prop :=
  (outsAt0 m c t.val t.isLt).2 (ix2 (0 : Fin 8) (0 : Fin 128)) = total p (t.val / 5) (9600 * (t.val % 5 + 1))
    ∧ ∀ j : Fin 9600, (outsAt0 m c t.val t.isLt).1 (ix3 (0 : Fin 1) j (0 : Fin 1)) = wanted m c p w (batch t) (time t j)

include hp hw in
/-- From a carry holding the sum over the tiles before it, the body at point `t` computes the wanted values and the next carry. -/
theorem body (t : Fin cfg0.N) (v63 : FVec Ideal S1x1 .f32)
    (hc : v63 (ix2 (0 : Fin 1) (0 : Fin 1)) = total p (t.val / 5) (9600 * (t.val % 5))) :
    k0_pay7 (F := Ideal) (k0_pay3 (iblk m c 0 t)) k0_pay4 (k0_pay5 (iblk m c 0 t)) v63 (ix2 (0 : Fin 1) (0 : Fin 1))
        = total p (t.val / 5) (9600 * (t.val % 5 + 1))
      ∧ ∀ j : Fin 9600, stored (iblk m c 0 t) (iblk m c 1 t) (iblk m c 2 t) (iblk m c 3 t) (iblk m c 4 t) (iblk m c 5 t) v63 (ix3 (0 : Fin 1) j (0 : Fin 1))
        = wanted m c p w (batch t) (time t j) := by
  have h0 : ∀ j : Fin 9600, (iblk m c 0 t : FVec Ideal S1x1x1x9600 .f32) (ix4 (0 : Fin 1) (0 : Fin 1) (0 : Fin 1) j)
      = (p (t.val / 5) (9600 * (t.val % 5) + j.val) : EReal) := fun j => (block0 m c t j).trans (hp (batch t) (time t j))
  have h1 : ∀ j : Fin 9600, (iblk m c 1 t : FVec Ideal S1x1x1x9600 .f32) (ix4 (0 : Fin 1) (0 : Fin 1) (0 : Fin 1) j)
      = (p 0 (9600 * (t.val % 5) + j.val) : EReal) := fun j => (block1 m c t j).trans (hp 0 (time t j))
  have h4 : ∀ (n : Fin 64) (i : Fin 512), (iblk m c 4 t : FVec Ideal S64x512 .f32) (ix2 n i) = (w n.val i.val : EReal) :=
    fun n i => (block4 m c t n i).trans (hw n i)
  refine ⟨carried p _ _ _ v63 h0 hc, fun j => ?_⟩
  refine (stored_apply p w _ _ _ _ (iblk m c 2 t) (iblk m c 3 t) _ _ v63 h0 h1 h4 (block5 m c t) hc j).trans ?_
  rw [block2]
  simp only [block3]

include hp hw in
/-- Every point leaves what it should. -/
theorem left (n : ℕ) (hn : n < cfg0.N) : Left m c p w ⟨n, hn⟩ := by
  induction n with
  | zero =>
    have hc := corner_zero p ((⟨0, hn⟩ : Fin cfg0.N).val / 5)
    have hb := body m c p w hp hw ⟨0, hn⟩ _ hc
    unfold Left
    rw [outsAt0_A m c ⟨0, hn⟩ rfl]
    dsimp only
    refine ⟨Eq.trans ?_ hb.1, fun j => Eq.trans ?_ (hb.2 j)⟩
    · exact carry_A ..
    · exact congrFun (out_A ..) _
  | succ n ih =>
    by_cases h0 : (n + 1) % 5 = 0
    · have hc : corner (k0_pay2 (F := Ideal)) (ix2 (0 : Fin 1) (0 : Fin 1)) = total p ((n + 1) / 5) (9600 * ((n + 1) % 5)) := by
        rw [h0]; exact corner_zero p _
      have hb := body m c p w hp hw ⟨n + 1, hn⟩ _ hc
      unfold Left
      rw [outsAt0_A m c ⟨n + 1, hn⟩ h0]
      dsimp only
      refine ⟨Eq.trans ?_ hb.1, fun j => Eq.trans ?_ (hb.2 j)⟩
      · exact carry_A ..
      · exact congrFun (out_A ..) _
    · have hc : corner (outsAt0 m c n (Nat.lt_of_succ_lt hn)).2 (ix2 (0 : Fin 1) (0 : Fin 1)) = total p ((n + 1) / 5) (9600 * ((n + 1) % 5)) := by
        rw [corner_apply, (ih (Nat.lt_of_succ_lt hn)).1]
        rw [show n / 5 = (n + 1) / 5 by omega, show n % 5 + 1 = (n + 1) % 5 by omega]
      have hb := body m c p w hp hw ⟨n + 1, hn⟩ _ hc
      unfold Left
      rw [outsAt0_B m c ⟨n + 1, hn⟩ h0]
      dsimp only
      refine ⟨Eq.trans ?_ hb.1, fun j => Eq.trans ?_ (hb.2 j)⟩
      · exact carry_B ..
      · exact congrFun (out_B ..) _

include hp hw in
/-- The kernel's output array holds the wanted value at every batch and time. -/
theorem output_apply (b : Fin 16) (i : Fin 48000) : G6 m c (ix3 b i (0 : Fin 1)) = wanted m c p w b i := by
  have hN : cfg0.N = 80 := N_0
  have e : pt6Of (ix3 b i (0 : Fin 1)) = 5 * b.val + i.val / 9600 := by
    show 5 * (b.val / 1 - 0) + 1 * (i.val / 9600 - 0) + 1 * (0 / 1 - 0) = _
    omega
  have hi := i.isLt
  have hb := b.isLt
  have ht : pt6Of (ix3 b i (0 : Fin 1)) < cfg0.N := by omega
  have hl := (left m c p w hp hw _ ht).2 ⟨i.val % 9600, Nat.mod_lt _ (by omega)⟩
  have eb : batch ⟨pt6Of (ix3 b i (0 : Fin 1)), ht⟩ = b := Fin.ext (by show pt6Of _ / 5 = _; omega)
  have ei : time ⟨pt6Of (ix3 b i (0 : Fin 1)), ht⟩ ⟨i.val % 9600, Nat.mod_lt _ (by omega)⟩ = i :=
    Fin.ext (by show 9600 * (pt6Of _ % 5) + i.val % 9600 = _; omega)
  rw [eb, ei] at hl
  unfold G6
  rw [dif_pos ht, ← outsAt0_sweep m c _ ht]
  refine Eq.trans (congrArg _ (funext fun a => Fin.ext ?_)) hl
  fin_cases a
  · exact Nat.mod_one b.val
  · rfl
  · rfl

end Cert.Wave.Carry

end
-- ==== Proof.Window.lean ====
/- A cumulative sum written as a window sum: a window as long as the row, padded in front by one less, sums at place `i`
   the row's entries up to `i`. -/
module

public import Idealize.ShloMosaic.PureOps.Ideal
public import Idealize.ShloMosaic.Lib.ValueIdx

@[expose] public section

noncomputable section

namespace Cert.Wave

open Idealize.ShloMosaic Idealize.ShloMosaic.ValueIdx
open scoped BigOperators

/-- Adding a list's terms one after another onto `v` gives `v` plus their sum. -/
theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- The terms of a window ending at `i`: those before the row's beginning are zero, the others are the row's up to `i`. -/
theorem sum_window (F : ℕ → EReal) {N i : ℕ} (hi : i < N) :
    ∑ n ∈ Finset.range N, (if N - 1 ≤ i + n then F (i + n - (N - 1)) else 0) = ∑ k ∈ Finset.range (i + 1), F k := by
  obtain ⟨d, rfl⟩ : ∃ d, N = d + (i + 1) := ⟨N - (i + 1), by omega⟩
  rw [Finset.sum_range_add, Finset.sum_eq_zero fun n hn => ?_, zero_add]
  · refine Finset.sum_congr rfl fun k _ => ?_
    rw [if_pos (by omega)]
    congr 1
    omega
  · have := Finset.mem_range.1 hn
    rw [if_neg (by omega)]

/-- The window sum with exact addition over each row, read at `(b, i)`: the sum of the row's entries up to `i`. -/
theorem windowSum_apply {B N D : ℕ} (hD : D + 1 = N) (x : (⟨2, ![B, N]⟩ : Shape).Idx → EReal) (v : EReal) (hv : v = 0)
    (h : (⟨2, ![B, N]⟩ : Shape).ReduceWindows ![1, N] ![1, 1] ![0, D] ![0, 0] ⟨2, ![B, N]⟩) (F : ℕ → EReal) (b : Fin B) (i : Fin N)
    (hF : ∀ k : Fin N, x (ix2 b k) = F k.val) :
    Ideal.hostReduceWindowAdd ![1, N] ![1, 1] ![0, D] ![0, 0] h x v (ix2 b i) = ∑ k ∈ Finset.range (i.val + 1), F k := by
  subst hv
  obtain rfl : D = N - 1 := by omega
  unfold Ideal.hostReduceWindowAdd Host.reduceWindow
  dsimp only
  rw [foldl_add, zero_add, ← Fin.sum_univ_def, ← Equiv.sum_comp (⟨2, ![1, N]⟩ : Shape).rowMajor]
  simp only [Equiv.symm_apply_apply]
  rw [sum_idx2, Fintype.sum_unique, ← sum_window F i.isLt, ← Fin.sum_univ_eq_sum_range (fun n => if N - 1 ≤ i.val + n then F (i.val + n - (N - 1)) else 0) N]
  refine Finset.sum_congr rfl fun k _ => ?_
  have hi := i.isLt
  have hk := k.isLt
  split
  · next hin =>
    have h1 : N - 1 ≤ i.val * 1 + k.val := (hin 1).1
    rw [if_pos (by omega)]
    rw [← hF ⟨i.val + k.val - (N - 1), by omega⟩]
    congr 1
    funext a
    apply Fin.ext
    match a with
    | ⟨0, _⟩ => show b.val * 1 + 0 - 0 = b.val; omega
    | ⟨1, _⟩ => show i.val * 1 + k.val - (N - 1) = i.val + k.val - (N - 1); omega
  · next hin =>
    rw [if_neg]
    intro hle
    apply hin
    intro a
    match a with
    | ⟨0, _⟩ => exact ⟨Nat.zero_le _, by show b.val * 1 + 0 - 0 < B; have := b.isLt; omega⟩
    | ⟨1, _⟩ => exact ⟨by show N - 1 ≤ i.val * 1 + k.val; omega, by show i.val * 1 + k.val - (N - 1) < N; omega⟩

end Cert.Wave

end
-- ==== Proof.Take.lean ====
/- A table read at an array of samples: the gather `W[:, idx]`, one element at a time. -/
module

public import Idealize.ShloMosaic.Lib.ValueIdx

@[expose] public section

noncomputable section

namespace Cert.Wave

open Idealize.ShloMosaic Idealize.ShloMosaic.ValueIdx

/-- The dimension numbers of `W[:, idx]` for a table `[N, K]` and indices `[B, T, 1]`. -/
abbrev colDims (N K B T : ℕ) (wf : GatherDims.WF ⟨2, ![N, K]⟩ ⟨3, ![B, T, 1]⟩ ⟨3, ![N, B, T]⟩ [0] [1] [] [1] [] 2 ![N, 1]) :
    GatherDims ⟨2, ![N, K]⟩ ⟨3, ![B, T, 1]⟩ ⟨3, ![N, B, T]⟩ where
  offsetDims := [0]
  collapsedSliceDims := [1]
  operandBatchingDims := []
  startIndicesBatchingDims := []
  startIndexMap := [1]
  indexVectorDim := 2
  sliceSizes := ![N, 1]
  wf := wf

/-- At `(n, b, t)` the gather is the table's row `n` at the sample `idx[b, t]` counts, where that is in range. -/
theorem gather_col_apply {α : Type} {N K B T : ℕ}
    (wf : GatherDims.WF ⟨2, ![N, K]⟩ ⟨3, ![B, T, 1]⟩ ⟨3, ![N, B, T]⟩ [0] [1] [] [1] [] 2 ![N, 1])
    (x : (⟨2, ![N, K]⟩ : Shape).Idx → α) (idx : IVec ⟨3, ![B, T, 1]⟩ 32) (n : Fin N) (b : Fin B) (t : Fin T) (k : Fin K)
    (hk : K ≤ 512) (hidx : idx (ix3 b t (0 : Fin 1)) = BitVec.ofNat 32 k.val) :
    Host.gather (colDims N K B T wf) x idx (ix3 n b t) = x (ix2 n k) := by
  unfold Host.gather
  congr 1
  funext a
  refine Fin.ext ?_
  show (colDims N K B T wf).start (ix3 n b t) idx a + (colDims N K B T wf).batchCoord (ix3 n b t) a
    + (colDims N K B T wf).offCoord (ix3 n b t) a = _
  rw [GatherDims.batchCoord_eq_zero _ _ _ List.not_mem_nil, Nat.add_zero]
  match a with
  | ⟨0, _⟩ =>
    have hs : (colDims N K B T wf).start (ix3 n b t) idx (0 : Fin 2) = 0 := by
      unfold GatherDims.start
      rw [dif_neg (show (0 : Fin 2) ∉ ([1] : List (Fin 2)) by decide)]
    have ho : (colDims N K B T wf).offCoord (ix3 n b t) (0 : Fin 2) = n.val := by
      unfold GatherDims.offCoord
      rw [dif_pos ((GatherDims.mem_sKept _ _).2 ⟨show (0 : Fin 2) ∉ ([1] : List (Fin 2)) by decide, List.not_mem_nil⟩)]
      rfl
    show (colDims N K B T wf).start (ix3 n b t) idx (0 : Fin 2) + (colDims N K B T wf).offCoord (ix3 n b t) (0 : Fin 2) = n.val
    rw [hs, ho, Nat.zero_add]
  | ⟨1, _⟩ =>
    have hs : (colDims N K B T wf).start (ix3 n b t) idx (1 : Fin 2) = k.val := by
      unfold GatherDims.start
      rw [dif_pos (show (1 : Fin 2) ∈ ([1] : List (Fin 2)) by decide)]
      have hsi : (colDims N K B T wf).siIdx (ix3 n b t) ⟨List.idxOf (1 : Fin 2) (colDims N K B T wf).startIndexMap,
          List.idxOf_lt_length_iff.2 (show (1 : Fin 2) ∈ ([1] : List (Fin 2)) by decide)⟩ = ix3 b t (0 : Fin 1) := by
        funext c; refine Fin.ext ?_
        match c with
        | ⟨0, _⟩ => rfl
        | ⟨1, _⟩ => rfl
        | ⟨2, _⟩ => rfl
      rw [hsi, hidx]
      have hkl := k.isLt
      have e : (BitVec.ofNat 32 k.val).toInt.toNat = k.val := by
        rw [BitVec.toInt_eq_toNat_of_lt (by rw [BitVec.toNat_ofNat]; omega), BitVec.toNat_ofNat, Int.toNat_natCast]
        omega
      rw [e]
      show min k.val (K - 1) = k.val
      omega
    have ho : (colDims N K B T wf).offCoord (ix3 n b t) (1 : Fin 2) = 0 :=
      GatherDims.offCoord_eq_zero _ _ _ (fun h => ((GatherDims.mem_sKept _ _).mp h).1 (show (1 : Fin 2) ∈ ([1] : List (Fin 2)) by decide))
    show (colDims N K B T wf).start (ix3 n b t) idx (1 : Fin 2) + (colDims N K B T wf).offCoord (ix3 n b t) (1 : Fin 2) = k.val
    rw [hs, ho, Nat.add_zero]

end Cert.Wave

end
-- ==== Proof.Reference.lean ====
/- What the reference computes, one element at a time: over finite pitches and a finite table, `value`. -/
module

public import proofs.«01_k».proof.Proof.Formula
public import proofs.«01_k».proof.Proof.Ops
public import proofs.«01_k».proof.Proof.Window
public import proofs.«01_k».proof.Proof.Take
public import proofs.«01_k».proof.Proof.Gen.ReferenceIdeal.Run
public import Idealize.ShloMosaic.Lib.Pipeline.Value
public import Idealize.ShloMosaic.Lib.IdealHost

@[expose] public section

noncomputable section

namespace Cert.Wave.Reference

open Idealize.ShloMosaic Idealize.ShloMosaic.ValueIdx Idealize.ShloMosaic.StableHlo
open Cert.ReferenceIdeal Cert.ReferenceIdeal.Gen Cert.ReferenceIdeal.Value
open scoped BigOperators

/-- The arrays the reference reads, as vectors: the pitch, the envelope, the attention and the table. -/
abbrev pitch (V0 : Valuation τ sig (Elt Ideal)) : FVec Ideal S16x48000x1 .f32 := V0 (Proc.devRef .tc main_arg0)
abbrev envelope (V0 : Valuation τ sig (Elt Ideal)) : FVec Ideal S16x48000x1 .f32 := V0 (Proc.devRef .tc main_arg1)
abbrev attention (V0 : Valuation τ sig (Elt Ideal)) : FVec Ideal S16x48000x64 .f32 := V0 (Proc.devRef .tc main_arg2)
abbrev table (V0 : Valuation τ sig (Elt Ideal)) : FVec Ideal S64x512 .f32 := V0 (Proc.devRef .tc main_arg3)

/-! ## The host's operations at an index -/

theorem remf_at {s : Shape} (x y : FVec Ideal s .f32) (i : s.Idx) : Host.remf x y i = Ideal.remf (x i) (y i) := rfl
theorem floor_at {s : Shape} (x : FVec Ideal s .f32) (i : s.Idx) : Host.floor x i = Ideal.liftRound Int.floor (x i) := rfl
theorem ceil_at {s : Shape} (x : FVec Ideal s .f32) (i : s.Idx) : Host.ceil x i = Ideal.liftRound Int.ceil (x i) := rfl
theorem fptosi_at {s : Shape} (x : FVec Ideal s .f32) (i : s.Idx) : fptosi 32 x i = Ideal.fptosi 32 (x i) := rfl
theorem remsi_at {s : Shape} (x y : IVec s 32) (i : s.Idx) : Host.remsi x y i = IntOp.remsi .host (x i) (y i) := rfl
theorem windowAdd_at {s t u : Shape} (window strides lo hi : Fin s.rank → Nat) (x : FVec Ideal s .f32) (init : u.Idx → Ideal .f32)
    (h : s.ReduceWindows window strides lo hi t) (hu : 0 < u.numel) :
    Host.reduceWindowAdd window strides lo hi x init h hu = Ideal.hostReduceWindowAdd window strides lo hi h x (init (Shape.Idx.first hu)) := rfl

/-! ## The phase -/

variable (V0 : Valuation τ sig (Elt Ideal)) (p w : ℕ → ℕ → ℝ)

/-- The increment at `(b, i)`. -/
theorem increment_apply (hp : ∀ (b : Fin 16) (i : Fin 48000), pitch V0 (ix3 b i (0 : Fin 1)) = (p b.val i.val : EReal)) (b : Fin 16) (i : Fin 48000) :
    (res_main_v2 V0 : FVec Ideal S16x48000 .f32) (ix2 b i) = (p b.val i.val : EReal) * (step : EReal) := by
  unfold res_main_v2
  rw [mulf_apply, broadcastInDim_scalar_apply, constant_apply, f32_step, mul_comm, ← hp]
  congr 1
  exact shapeCast_apply (s := S16x48000x1) (t := S16x48000) (pitch V0) _ (ix2 b i) (ix3 b i (0 : Fin 1))
    (by rw [Shape.rowMajor_val_two, Shape.rowMajor_val_three]; simp)

/-- The first batch's increments, spread over the batches. -/
theorem first_apply (x : FVec Ideal S16x48000 .f32) (b : Fin 16) (i : Fin 48000) :
    broadcastInDim S16x48000 ![0, 1] bcast_S1x48000_S16x48000_0_1 (broadcastInDim S1x48000 ![1] bcast_S48000_S1x48000_1
      (shapeCast _ (extractStridedSlice S1x48000 ![0, 0] x slices_S16x48000_S1x48000_0_0) shapeCasts_S1x48000_S48000)) (ix2 b i)
      = x (ix2 (0 : Fin 16) i) := by
  rw [broadcastInDim_apply _ _ _ _ (ix2 (0 : Fin 1) i) (fun a => by match a with | ⟨0, _⟩ => rfl | ⟨1, _⟩ => rfl),
    broadcastInDim_apply _ _ _ _ (ix1 i) (fun a => by match a with | ⟨0, _⟩ => rfl),
    shapeCast_apply _ _ _ (ix2 (0 : Fin 1) i) (by rw [Shape.rowMajor_val_two, Shape.rowMajor_val_one]; simp)]
  show x _ = _
  congr 1
  funext a
  apply Fin.ext
  match a with
  | ⟨0, _⟩ => rfl
  | ⟨1, _⟩ => show 0 + i.val = i.val; omega

/-- The divisor of the remainder is 512. -/
theorem divisor : (res_main_call1_v0 V0 : FVec Ideal S_ .f32) ix0 = ((512 : ℝ) : EReal) := by
  show (((512#32 : BitVec 32).toInt : ℝ) : EReal) = _
  rw [show (512#32 : BitVec 32).toInt = 512 from rfl]; norm_num

/-- The phase's remainder with the dividend's sign. -/
theorem rem_apply (hp : ∀ (b : Fin 16) (i : Fin 48000), pitch V0 (ix3 b i (0 : Fin 1)) = (p b.val i.val : EReal)) (b : Fin 16) (i : Fin 48000) :
    (res_main_call1_v2 V0 : FVec Ideal S16x48000 .f32) (ix2 b i) = (signedRem (phase p b.val i.val) : EReal) := by
  have h2 := increment_apply V0 p hp
  have hd := divisor V0
  unfold res_main_call1_v2
  generalize (res_main_v2 V0 : FVec Ideal S16x48000 .f32) = x at h2 ⊢
  generalize (res_main_call1_v0 V0 : FVec Ideal S_ .f32) = d at hd ⊢
  rw [← remf_512, ← phase_coe, remf_at, subf_apply, broadcastInDim_scalar_apply, hd, first_apply, h2, windowAdd_at,
    windowSum_apply (by norm_num) x _ ?_ _ (fun k => (p b.val k : EReal) * (step : EReal)) b i (fun k => h2 b k)]
  · rfl
  · exact (broadcastInDim_scalar_apply _ _ _).trans Ideal.ofBits_zero_f32

/-- The remainder with the divisor's sign, where the one with the dividend's sign is `signedRem x`. -/
theorem units_apply (r : FVec Ideal S16x48000 .f32) (d : FVec Ideal S_ .f32) (j : S16x48000.Idx) (x : ℝ)
    (hr : r j = (signedRem x : EReal)) (hd : d ix0 = ((512 : ℝ) : EReal)) :
    select (andi (cmpi .ne (cmpf .olt r (broadcastInDim S16x48000 ![] bcast_S_S16x48000 (constant S_ .f32 0x00000000#32)))
        (broadcastInDim S16x48000 ![] bcast_S_S16x48000 (cmpf .olt d (constant S_ .f32 0x00000000#32))))
        (cmpf .une r (broadcastInDim S16x48000 ![] bcast_S_S16x48000 (constant S_ .f32 0x00000000#32))))
      (addf r (broadcastInDim S16x48000 ![] bcast_S_S16x48000 d)) r j
      = Scalar.select (BitVec.ofBool (decide (signedRem x < 0))) ((signedRem x : EReal) + ((512 : ℝ) : EReal)) (signedRem x : EReal) := by
  have hz : broadcastInDim S16x48000 ![] bcast_S_S16x48000 (constant (F := Ideal) S_ .f32 0x00000000#32) j = ((0 : ℝ) : EReal) :=
    (broadcastInDim_scalar_apply _ _ _).trans f32_0
  have hs : broadcastInDim S16x48000 ![] bcast_S_S16x48000 (cmpf .olt d (constant S_ .f32 0x00000000#32)) j
      = Ideal.cmp .olt ((512 : ℝ) : EReal) ((0 : ℝ) : EReal) := by
    rw [broadcastInDim_scalar_apply, cmpf_apply, hd, constant_apply, f32_0]; rfl
  have hb : broadcastInDim S16x48000 ![] bcast_S_S16x48000 d j = ((512 : ℝ) : EReal) := (broadcastInDim_scalar_apply _ _ _).trans hd
  rw [← negative_ne, ← hs, ← hz, ← hb, ← hr]
  rfl

/-- Zero in place of what is within `tiny` of 512. -/
theorem wraps_apply (v : FVec Ideal S16x48000 .f32) (j : S16x48000.Idx) (x : ℝ)
    (hv : v j = Scalar.select (BitVec.ofBool (decide (signedRem x < 0))) ((signedRem x : EReal) + ((512 : ℝ) : EReal)) (signedRem x : EReal)) :
    select (cmpf .olt (subf (broadcastInDim S16x48000 ![] bcast_S_S16x48000 (constant S_ .f32 0x44000000#32)) v)
        (broadcastInDim S16x48000 ![] bcast_S_S16x48000 (constant S_ .f32 0x3727C5AC#32)))
      (broadcastInDim S16x48000 ![] bcast_S_S16x48000 (id (constant S_ .f32 0x00000000#32))) v j = (wrap x : EReal) := by
  rw [← wrap_select, ← hv, ← f32_512, ← f32_0, ← f32_tiny]
  rfl

/-- The phase brought into `[0, 512)`. -/
theorem wrap_apply (hp : ∀ (b : Fin 16) (i : Fin 48000), pitch V0 (ix3 b i (0 : Fin 1)) = (p b.val i.val : EReal)) (b : Fin 16) (i : Fin 48000) :
    (res_main_v14 V0 : FVec Ideal S16x48000 .f32) (ix2 b i) = (wrap (phase p b.val i.val) : EReal) := by
  have h9 := units_apply (res_main_call1_v2 V0) (res_main_call1_v0 V0) (ix2 b i) _ (rem_apply V0 p hp b i) (divisor V0)
  unfold res_main_v14
  exact wraps_apply (res_main_v9 V0) (ix2 b i) _ h9

/-- The sample below. -/
theorem floor_apply (hp : ∀ (b : Fin 16) (i : Fin 48000), pitch V0 (ix3 b i (0 : Fin 1)) = (p b.val i.val : EReal)) (b : Fin 16) (i : Fin 48000) :
    (res_main_v15 V0 : FVec Ideal S16x48000 .f32) (ix2 b i) = ((lo (phase p b.val i.val) : ℝ) : EReal) := by
  unfold res_main_v15
  rw [floor_at, wrap_apply V0 p hp, floor_coe]

/-- The sample below, as a word. -/
theorem low_apply (hp : ∀ (b : Fin 16) (i : Fin 48000), pitch V0 (ix3 b i (0 : Fin 1)) = (p b.val i.val : EReal)) (b : Fin 16) (i : Fin 48000) :
    (res_main_v18 V0 : IVec S16x48000 32) (ix2 b i) = BitVec.ofNat 32 (lo (phase p b.val i.val)) := by
  unfold res_main_v18
  rw [fptosi_at, floor_apply V0 p hp, fptosi_nat _ ((lo_lt _).trans (by norm_num))]

/-- The sample above, as a word. -/
theorem high_apply (hp : ∀ (b : Fin 16) (i : Fin 48000), pitch V0 (ix3 b i (0 : Fin 1)) = (p b.val i.val : EReal)) (b : Fin 16) (i : Fin 48000) :
    (res_main_v20 V0 : IVec S16x48000 32) (ix2 b i) = BitVec.ofNat 32 (above (phase p b.val i.val)) := by
  have h2 : ∀ k, (res_main_call3_v2 V0 : IVec S_ 32) k = 512#32 := fun _ => rfl
  have h4 : (res_main_call3_v4 V0 : IVec S16x48000 32) (ix2 b i) = BitVec.ofNat 32 (above (phase p b.val i.val)) := by
    unfold res_main_call3_v4
    rw [remsi_at, fptosi_at, ceil_at, wrap_apply V0 p hp, broadcastInDim_scalar_apply, h2, ceil_rem]
  have hs := slt_zero _ (above_lt (phase p b.val i.val))
  unfold res_main_v20
  generalize (res_main_call3_v4 V0 : IVec S16x48000 32) = r at h4 ⊢
  generalize (res_main_call3_v2 V0 : IVec S_ 32) = d at h2 ⊢
  rw [select_apply, h4]
  refine (congrArg (fun c => Scalar.select c _ _) (?_ : _ = 0#1)).trans rfl
  show IntOp.cmpi .ne (IntOp.cmpi .slt (r (ix2 b i)) 0#32)
    (broadcastInDim S16x48000 ![] bcast_S_S16x48000 (cmpi .slt d (constantI S_ 32 0#32)) (ix2 b i)) &&& _ = _
  rw [broadcastInDim_scalar_apply, h4, hs]
  show IntOp.cmpi .ne (0#1) (IntOp.cmpi .slt (d ix0) 0#32) &&& _ = _
  rw [h2, show IntOp.cmpi .ne (0#1) (IntOp.cmpi .slt (512#32 : BitVec 32) 0#32) = 0#1 from by decide, BitVec.zero_and]

/-- The table read at an array of words, negative ones counted from the end. -/
abbrev taken (idx : IVec S16x48000 32) : FVec Ideal S64x16x48000 .f32 :=
  Host.gather gather_S64x512_S16x48000x1_S64x16x48000_0_1_n_n_1_2_641 (table V0) (broadcastInDim S16x48000x1 ![0, 1] bcast_S16x48000_S16x48000x1_0_1
    (select (cmpi .slt idx (broadcastInDim S16x48000 ![] bcast_S_S16x48000 (constantI S_ 32 0#32)))
      (addi idx (broadcastInDim S16x48000 ![] bcast_S_S16x48000 (constantI S_ 32 512#32))) idx))

/-- The table read at words that count samples. -/
theorem take_apply (hw : ∀ (n : Fin 64) (k : Fin 512), table V0 (ix2 n k) = (w n.val k.val : EReal))
    (idx : IVec S16x48000 32) (k : ℕ) (hk : k < 512) (n : Fin 64) (b : Fin 16) (i : Fin 48000) (hidx : idx (ix2 b i) = BitVec.ofNat 32 k) :
    taken V0 idx (ix3 n b i) = (w n.val k : EReal) := by
  refine (gather_col_apply _ _ _ n b i (⟨k, hk⟩ : Fin 512) le_rfl ?_).trans (hw n ⟨k, hk⟩)
  rw [broadcastInDim_apply _ _ _ _ (ix2 b i) (fun a => by match a with | ⟨0, _⟩ => rfl | ⟨1, _⟩ => rfl), select_apply]
  show Scalar.select (IntOp.cmpi .slt (idx (ix2 b i)) 0#32) _ (idx (ix2 b i)) = _
  rw [hidx, slt_zero k hk]
  rfl

/-! ## The sum over the tables -/

/-- The two samples interpolated, weighted, summed over the tables and scaled, for any arrays in their places. -/
abbrev mixed (lows highs : FVec Ideal S64x16x48000 .f32) (v f : FVec Ideal S16x48000 .f32) (att : FVec Ideal S16x48000x64 .f32)
    (env : FVec Ideal S16x48000x1 .f32) : FVec Ideal S16x48000x1 .f32 :=
  mulf (broadcastInDim S16x48000x1 ![0, 1] bcast_S16x48000_S16x48000x1_0_1 (Host.reduceAdd (mulf (transpose S16x48000x64 [1, 2, 0]
    (addf lows (mulf (broadcastInDim S64x16x48000 ![0, 1, 2] bcast_S1x16x48000_S64x16x48000_0_1_2
      (broadcastInDim S1x16x48000 ![1, 2] bcast_S16x48000_S1x16x48000_1_2 (subf v f))) (subf highs lows)))
    transposes_S64x16x48000_S16x48000x64_1_2_0) att) (constant S_ .f32 0x00000000#32) reducesTo_S16x48000x64_S16x48000_d2 h_S_)) env

/-- The host's sum along the last axis, from zero. -/
theorem sum_apply (x : FVec Ideal S16x48000x64 .f32) (b : Fin 16) (i : Fin 48000) :
    Host.reduceAdd x (constant S_ .f32 0x00000000#32) reducesTo_S16x48000x64_S16x48000_d2 h_S_ (ix2 b i) = ∑ n : Fin 64, x (ix3 b i n) := by
  have h : S16x48000x64.Reduces [2] S16x48000 := by decide
  refine (Ideal.hostReduceAdd_single reducesTo_S16x48000x64_S16x48000_d2 h x _ (ix2 b i)).trans ?_
  rw [show (constant (F := Ideal) S_ .f32 0x00000000#32) (Shape.Idx.first h_S_) = (0 : EReal) from Ideal.ofBits_zero_f32, zero_add]
  refine Finset.sum_congr rfl fun n _ => congrArg x ?_
  funext a
  apply Fin.ext
  match a with
  | ⟨0, _⟩ => rfl
  | ⟨1, _⟩ => rfl
  | ⟨2, _⟩ => rfl

/-- `mixed` at one time of one batch. -/
theorem mixed_apply (lows highs : FVec Ideal S64x16x48000 .f32) (v f : FVec Ideal S16x48000 .f32) (att : FVec Ideal S16x48000x64 .f32)
    (env : FVec Ideal S16x48000x1 .f32) (b : Fin 16) (i : Fin 48000) :
    mixed lows highs v f att env (ix3 b i (0 : Fin 1)) = (∑ n : Fin 64, (lows (ix3 n b i) + (v (ix2 b i) - f (ix2 b i))
      * (highs (ix3 n b i) - lows (ix3 n b i))) * att (ix3 b i n)) * env (ix3 b i (0 : Fin 1)) := by
  unfold mixed
  rw [mulf_apply, broadcastInDim_apply _ _ _ _ (ix2 b i) (fun a => by match a with | ⟨0, _⟩ => rfl | ⟨1, _⟩ => rfl), sum_apply]
  refine congrArg (· * _) (Finset.sum_congr rfl fun n _ => ?_)
  rw [mulf_apply, transpose_apply _ _ _ _ (ix3 n b i) (fun a => by match a with | ⟨0, _⟩ => rfl | ⟨1, _⟩ => rfl | ⟨2, _⟩ => rfl),
    addf_apply, mulf_apply, subf_apply,
    broadcastInDim_apply _ _ _ _ (ix3 (0 : Fin 1) b i) (fun a => by match a with | ⟨0, _⟩ => rfl | ⟨1, _⟩ => rfl | ⟨2, _⟩ => rfl),
    broadcastInDim_apply _ _ _ _ (ix2 b i) (fun a => by match a with | ⟨0, _⟩ => rfl | ⟨1, _⟩ => rfl), subf_apply]

/-- The reference's result at `(b, i)` is `value`. -/
theorem result_apply (hp : ∀ (b : Fin 16) (i : Fin 48000), pitch V0 (ix3 b i (0 : Fin 1)) = (p b.val i.val : EReal))
    (hw : ∀ (n : Fin 64) (k : Fin 512), table V0 (ix2 n k) = (w n.val k.val : EReal)) (b : Fin 16) (i : Fin 48000) :
    mixed (taken V0 (res_main_v18 V0)) (taken V0 (res_main_v20 V0)) (res_main_v14 V0) (res_main_v15 V0) (attention V0) (envelope V0) (ix3 b i (0 : Fin 1))
      = value p w (fun n => attention V0 (ix3 b i n)) (envelope V0 (ix3 b i (0 : Fin 1))) b.val i.val := by
  rw [mixed_apply, wrap_apply V0 p hp, floor_apply V0 p hp, sub_floor]
  refine congrArg (· * _) (Finset.sum_congr rfl fun n _ => congrArg (· * _) ?_)
  rw [take_apply V0 w hw _ _ ((lo_lt _).trans_le (by norm_num)) n b i (low_apply V0 p hp b i),
    take_apply V0 w hw _ _ (above_lt _) n b i (high_apply V0 p hp b i), ← EReal.coe_sub, ← EReal.coe_mul, ← EReal.coe_add, sample_above]

end Cert.Wave.Reference

end
-- ==== Proof.Equation.lean ====
/- The kernel's output array is the reference's result. -/
module

public import proofs.«01_k».proof.Proof.Carry
public import proofs.«01_k».proof.Proof.Reference

@[expose] public section

noncomputable section

namespace Cert.Wave

open Idealize.ShloMosaic Idealize.ShloMosaic.TcCoe Idealize.SL.Sem Idealize.ShloMosaic.StableHlo
open Idealize.ShloMosaic.ValueIdx

/-- The real numbers of an array of finite pitches, by batch and time. -/
def pitchReals (x : FVec Ideal Cert.KernelIdeal.S16x48000x1 .f32) (b i : ℕ) : ℝ :=
  if h : b < 16 ∧ i < 48000 then (x (ix3 (⟨b, h.1⟩ : Fin 16) (⟨i, h.2⟩ : Fin 48000) (0 : Fin 1))).toReal else 0

/-- The real numbers of a finite table, by harmonic and sample. -/
def tableReals (x : FVec Ideal Cert.KernelIdeal.S64x512 .f32) (n k : ℕ) : ℝ :=
  if h : n < 64 ∧ k < 512 then (x (ix2 (⟨n, h.1⟩ : Fin 64) (⟨k, h.2⟩ : Fin 512))).toReal else 0

theorem pitchReals_apply (x : FVec Ideal Cert.KernelIdeal.S16x48000x1 .f32) (hx : ∀ i, x i = ((x i).toReal : EReal)) (b : Fin 16) (i : Fin 48000) :
    x (ix3 b i (0 : Fin 1)) = (pitchReals x b.val i.val : EReal) := by
  unfold pitchReals
  rw [dif_pos ⟨b.isLt, i.isLt⟩]
  exact hx _

theorem tableReals_apply (x : FVec Ideal Cert.KernelIdeal.S64x512 .f32) (hx : ∀ i, x i = ((x i).toReal : EReal)) (n : Fin 64) (k : Fin 512) :
    x (ix2 n k) = (tableReals x n.val k.val : EReal) := by
  unfold tableReals
  rw [dif_pos ⟨n.isLt, k.isLt⟩]
  exact hx _

/-- From equal arguments, with finite pitches and a finite table, the reference's result is the array the kernel leaves. -/
theorem equation (m : (ℓ : Loc Cert.KernelIdeal.nD Cert.KernelIdeal.τ Cert.KernelIdeal.sig) → Buf (Elt Ideal) ℓ) (c : Dev Cert.KernelIdeal.nD)
    (V0 : Valuation Cert.ReferenceIdeal.τ Cert.ReferenceIdeal.sig (Elt Ideal))
    (a0 : Reference.pitch V0 = Windows.pitch m c) (a1 : Reference.envelope V0 = Windows.envelope m c)
    (a2 : Reference.attention V0 = Windows.attention m c) (a3 : Reference.table V0 = Windows.table m c)
    (hp : ∀ i, Windows.pitch m c i = ((Windows.pitch m c i).toReal : EReal)) (hw : ∀ i, Windows.table m c i = ((Windows.table m c i).toReal : EReal)) :
    Reference.mixed (Reference.taken V0 (Cert.ReferenceIdeal.Value.res_main_v18 V0)) (Reference.taken V0 (Cert.ReferenceIdeal.Value.res_main_v20 V0))
      (Cert.ReferenceIdeal.Value.res_main_v14 V0) (Cert.ReferenceIdeal.Value.res_main_v15 V0) (Reference.attention V0) (Reference.envelope V0)
      = Cert.KernelIdeal.Value.G6 m c := by
  have kp := pitchReals_apply _ hp
  have kw := tableReals_apply _ hw
  funext i
  rw [eq_ix3 i, show i 2 = (0 : Fin 1) from Fin.fin_one_eq_zero _]
  refine (Reference.result_apply V0 _ _ (fun b i => (congrFun a0 _).trans (kp b i)) (fun n k => (congrFun a3 _).trans (kw n k)) (i 0) (i 1)).trans ?_
  refine Eq.trans ?_ (Carry.output_apply m c _ _ kp kw (i 0) (i 1)).symm
  rw [a1, a2]

end Cert.Wave

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Finite
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference runs from any memory, keeps its arguments and leaves every semaphore at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- With finite pitches and a finite table, the kernel and the reference leave the same array. -/
theorem algebraic : algebraic_KernelIdeal_ReferenceIdeal_pre_finite (hPre_finite := Cert.Wave.pre_facts) := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩) (Cert.ReferenceIdeal.Value.run (F := Ideal) m' ρ')
  obtain ⟨a0, a1, a2, a3⟩ := hagree c
  obtain ⟨hp, hw⟩ := @Cert.Wave.real_of_pre Cert.Wave.pre_facts _ _ _ _ (hpre c)
  exact Cert.Wave.equation m c (StableHlo.launchContents m' c) a0 a1 a2 a3 hp hw

theorem claim : Cert.Claim := ⟨Cert.Kernel.Gen.facts, Cert.KernelIdeal.Gen.facts, Cert.ReferenceIdeal.Gen.facts, Cert.Wave.pre_facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial, (trivial : preserves_Kernel_KernelIdeal), algebraic⟩

end Cert.Proof

end
